-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x128 : Shape := ⟨2, ![16384, 128]⟩
abbrev S16384 : Shape := ⟨1, ![16384]⟩
abbrev S128x128 : Shape := ⟨2, ![128, 128]⟩
abbrev S2x128 : Shape := ⟨2, ![2, 128]⟩
abbrev S8x128 : Shape := ⟨2, ![8, 128]⟩
abbrev S1x16384 : Shape := ⟨2, ![1, 16384]⟩
abbrev S4096x128 : Shape := ⟨2, ![4096, 128]⟩
abbrev S1x4096 : Shape := ⟨2, ![1, 4096]⟩
abbrev S4096 : Shape := ⟨1, ![4096]⟩
abbrev S4096x1 : Shape := ⟨2, ![4096, 1]⟩
abbrev S6x128 : Shape := ⟨2, ![6, 128]⟩
abbrev S16x128 : Shape := ⟨2, ![16, 128]⟩
abbrev S16x4096 : Shape := ⟨2, ![16, 4096]⟩
abbrev S48x4096 : Shape := ⟨2, ![48, 4096]⟩
abbrev S48x128 : Shape := ⟨2, ![48, 128]⟩

abbrev nBuf : Space → Nat
  | .hbm => 8
  | .vmem => 9
  | .smem => 0
  | _ => 0

abbrev bufTy : (tb : Table) → Fin (tcTables nBuf tb) → BufTy
  | .hbm, ⟨0, _⟩ => ⟨S16384x128, .f32⟩
  | .hbm, ⟨1, _⟩ => ⟨S16384, .i1⟩
  | .hbm, ⟨2, _⟩ => ⟨S128x128, .f32⟩
  | .hbm, ⟨3, _⟩ => ⟨S2x128, .f32⟩
  | .hbm, ⟨4, _⟩ => ⟨S8x128, .f32⟩
  | .hbm, ⟨5, _⟩ => ⟨S1x16384, .i1⟩
  | .hbm, ⟨6, _⟩ => ⟨S1x16384, .i32⟩
  | .hbm, ⟨7, _⟩ => ⟨S16384x128, .f32⟩
  | .local _ .vmem, ⟨0, _⟩ => ⟨S4096x128, .f32⟩
  | .local _ .vmem, ⟨1, _⟩ => ⟨S4096x128, .f32⟩
  | .local _ .vmem, ⟨2, _⟩ => ⟨S1x4096, .i32⟩
  | .local _ .vmem, ⟨3, _⟩ => ⟨S1x4096, .i32⟩
  | .local _ .vmem, ⟨4, _⟩ => ⟨S128x128, .f32⟩
  | .local _ .vmem, ⟨5, _⟩ => ⟨S2x128, .f32⟩
  | .local _ .vmem, ⟨6, _⟩ => ⟨S8x128, .f32⟩
  | .local _ .vmem, ⟨7, _⟩ => ⟨S4096x128, .f32⟩
  | .local _ .vmem, ⟨8, _⟩ => ⟨S4096x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16384x128 : Shape := ⟨2, ![16384, 128]⟩
abbrev S16384 : Shape := ⟨1, ![16384]⟩
abbrev S128x128 : Shape := ⟨2, ![128, 128]⟩
abbrev S2x128 : Shape := ⟨2, ![2, 128]⟩
abbrev S8x128 : Shape := ⟨2, ![8, 128]⟩
abbrev S_ : Shape := ⟨0, ![]⟩
abbrev S16384x1 : Shape := ⟨2, ![16384, 1]⟩
abbrev S128x2 : Shape := ⟨2, ![128, 2]⟩
abbrev S16384x2 : Shape := ⟨2, ![16384, 2]⟩
abbrev S1 : Shape := ⟨1, ![1]⟩
abbrev S1x1 : Shape := ⟨2, ![1, 1]⟩
abbrev S128x8 : Shape := ⟨2, ![128, 8]⟩
abbrev S16384x8 : Shape := ⟨2, ![16384, 8]⟩

abbrev nBuf : Space → Nat
  | .hbm => 125
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384, .i1⟩
  | .hbm, ⟨2, _⟩ => ⟨S128x128, .f32⟩
  | .hbm, ⟨3, _⟩ => ⟨S2x128, .f32⟩
  | .hbm, ⟨4, _⟩ => ⟨S8x128, .f32⟩
  | .hbm, ⟨5, _⟩ => ⟨S16384x128, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x128, .f32⟩
  | .hbm, ⟨14, _⟩ => ⟨S16384x128, .f32⟩
  | .hbm, ⟨15, _⟩ => ⟨S16384x128, .f32⟩
  | .hbm, ⟨16, _⟩ => ⟨S128x2, .f32⟩
  | .hbm, ⟨17, _⟩ => ⟨S16384x2, .f32⟩
  | .hbm, ⟨18, _⟩ => ⟨S16384x2, .i32⟩
  | .hbm, ⟨19, _⟩ => ⟨S_, .f32⟩
  | .hbm, ⟨20, _⟩ => ⟨S_, .i32⟩
  | .hbm, ⟨21, _⟩ => ⟨S16384, .f32⟩
  | .hbm, ⟨22, _⟩ => ⟨S16384, .i32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S16384x1, .i32⟩
  | .hbm, ⟨31, _⟩ => ⟨S1, .i32⟩
  | .hbm, ⟨32, _⟩ => ⟨S_, .i32⟩
  | .hbm, ⟨33, _⟩ => ⟨S16384x1, .i32⟩
  | .hbm, ⟨34, _⟩ => ⟨S16384x1, .i1⟩
  | .hbm, ⟨35, _⟩ => ⟨S1x1, .i32⟩
  | .hbm, ⟨36, _⟩ => ⟨S16384x1, .i32⟩
  | .hbm, ⟨37, _⟩ => ⟨S16384x1, .i1⟩
  | .hbm, ⟨38, _⟩ => ⟨S16384x1, .i1⟩
  | .hbm, ⟨39, _⟩ => ⟨S_, .i1⟩
  | .hbm, ⟨40, _⟩ => ⟨S16384, .i1⟩
  | .hbm, ⟨41, _⟩ => ⟨S16384x128, .f32⟩
  | .hbm, ⟨42, _⟩ => ⟨S16384x128, .i1⟩
  | .hbm, ⟨43, _⟩ => ⟨S_, .f32⟩
  | .hbm, ⟨44, _⟩ => ⟨S16384x128, .f32⟩
  | .hbm, ⟨45, _⟩ => ⟨S16384x128, .f32⟩
  | .hbm, ⟨46, _⟩ => ⟨S16384x128, .f32⟩
  | .hbm, ⟨47, _⟩ => ⟨S_, .f32⟩
  | .hbm, ⟨48, _⟩ => ⟨S16384x128, .f32⟩
  | .hbm, ⟨49, _⟩ => ⟨S16384x128, .i1⟩
  | .hbm, ⟨50, _⟩ => ⟨S16384x128, .f32⟩
  | .hbm, ⟨51, _⟩ => ⟨S_, .f32⟩
  | .hbm, ⟨52, _⟩ => ⟨S16384x128, .f32⟩
  | .hbm, ⟨53, _⟩ => ⟨S16384x128, .f32⟩
  | .hbm, ⟨54, _⟩ => ⟨S_, .f32⟩
  | .hbm, ⟨55, _⟩ => ⟨S16384x128, .f32⟩
  | .hbm, ⟨56, _⟩ => ⟨S16384x128, .f32⟩
  | .hbm, ⟨57, _⟩ => ⟨S16384x128, .f32⟩
  | .hbm, ⟨58, _⟩ => ⟨S_, .f32⟩
  | .hbm, ⟨59, _⟩ => ⟨S16384, .f32⟩
  | .hbm, ⟨60, _⟩ => ⟨S_, .f32⟩
  | .hbm, ⟨61, _⟩ => ⟨S16384, .f32⟩
  | .hbm, ⟨62, _⟩ => ⟨S16384, .f32⟩
  | .hbm, ⟨63, _⟩ => ⟨S128x8, .f32⟩
  | .hbm, ⟨64, _⟩ => ⟨S16384x8, .f32⟩
  | .hbm, ⟨65, _⟩ => ⟨S16384x8, .i32⟩
  | .hbm, ⟨66, _⟩ => ⟨S_, .f32⟩
  | .hbm, ⟨67, _⟩ => ⟨S_, .i32⟩
  | .hbm, ⟨68, _⟩ => ⟨S16384, .f32⟩
  | .hbm, ⟨69, _⟩ => ⟨S16384, .i32⟩
  | .hbm, ⟨70, _⟩ => ⟨S_, .i32⟩
  | .hbm, ⟨71, _⟩ => ⟨S16384, .i32⟩
  | .hbm, ⟨72, _⟩ => ⟨S16384, .i1⟩
  | .hbm, ⟨73, _⟩ => ⟨S_, .i32⟩
  | .hbm, ⟨74, _⟩ => ⟨S16384, .i32⟩
  | .hbm, ⟨75, _⟩ => ⟨S16384, .i32⟩
  | .hbm, ⟨76, _⟩ => ⟨S16384, .i32⟩
  | .hbm, ⟨77, _⟩ => ⟨S16384x1, .i32⟩
  | .hbm, ⟨78, _⟩ => ⟨S1, .i32⟩
  | .hbm, ⟨79, _⟩ => ⟨S_, .i32⟩
  | .hbm, ⟨80, _⟩ => ⟨S16384x1, .i32⟩
  | .hbm, ⟨81, _⟩ => ⟨S16384x1, .i1⟩
  | .hbm, ⟨82, _⟩ => ⟨S1x1, .i32⟩
  | .hbm, ⟨83, _⟩ => ⟨S16384x1, .i32⟩
  | .hbm, ⟨84, _⟩ => ⟨S16384x1, .i1⟩
  | .hbm, ⟨85, _⟩ => ⟨S16384x1, .i1⟩
  | .hbm, ⟨86, _⟩ => ⟨S_, .i1⟩
  | .hbm, ⟨87, _⟩ => ⟨S16384, .i1⟩
  | .hbm, ⟨88, _⟩ => ⟨S16384x128, .f32⟩
  | .hbm, ⟨89, _⟩ => ⟨S16384x128, .i1⟩
  | .hbm, ⟨90, _⟩ => ⟨S_, .f32⟩
  | .hbm, ⟨91, _⟩ => ⟨S16384x128, .f32⟩
  | .hbm, ⟨92, _⟩ => ⟨S16384x128, .f32⟩
  | .hbm, ⟨93, _⟩ => ⟨S16384x128, .f32⟩
  | .hbm, ⟨94, _⟩ => ⟨S_, .f32⟩
  | .hbm, ⟨95, _⟩ => ⟨S16384x128, .f32⟩
  | .hbm, ⟨96, _⟩ => ⟨S16384x128, .i1⟩
  | .hbm, ⟨97, _⟩ => ⟨S16384x128, .f32⟩
  | .hbm, ⟨98, _⟩ => ⟨S_, .f32⟩
  | .hbm, ⟨99, _⟩ => ⟨S16384x128, .f32⟩
  | .hbm, ⟨100, _⟩ => ⟨S16384x128, .f32⟩
  | .hbm, ⟨101, _⟩ => ⟨S_, .f32⟩
  | .hbm, ⟨102, _⟩ => ⟨S16384x128, .f32⟩
  | .hbm, ⟨103, _⟩ => ⟨S16384x128, .f32⟩
  | .hbm, ⟨104, _⟩ => ⟨S16384x128, .f32⟩
  | .hbm, ⟨105, _⟩ => ⟨S_, .f32⟩
  | .hbm, ⟨106, _⟩ => ⟨S16384, .f32⟩
  | .hbm, ⟨107, _⟩ => ⟨S_, .f32⟩
  | .hbm, ⟨108, _⟩ => ⟨S16384, .f32⟩
  | .hbm, ⟨109, _⟩ => ⟨S16384, .f32⟩
  | .hbm, ⟨110, _⟩ => ⟨S16384x1, .f32⟩
  | .hbm, ⟨111, _⟩ => ⟨S16384x128, .f32⟩
  | .hbm, ⟨112, _⟩ => ⟨S16384x128, .f32⟩
  | .hbm, ⟨113, _⟩ => ⟨S16384x128, .f32⟩
  | .hbm, ⟨114, _⟩ => ⟨S16384x1, .f32⟩
  | .hbm, ⟨115, _⟩ => ⟨S16384x128, .f32⟩
  | .hbm, ⟨116, _⟩ => ⟨S16384x128, .f32⟩
  | .hbm, ⟨117, _⟩ => ⟨S16384x128, .f32⟩
  | .hbm, ⟨118, _⟩ => ⟨S16384x1, .i1⟩
  | .hbm, ⟨119, _⟩ => ⟨S16384x128, .i1⟩
  | .hbm, ⟨120, _⟩ => ⟨S16384x128, .f32⟩
  | .hbm, ⟨121, _⟩ => ⟨S128x128, .f32⟩
  | .hbm, ⟨122, _⟩ => ⟨S16384x128, .f32⟩
  | .hbm, ⟨123, _⟩ => ⟨S16384x128, .f32⟩
  | .hbm, ⟨124, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call1_v0 : Ref sig .tc := ⟨.hbm, 18, rfl⟩
abbrev main_call1_cst : Ref sig .tc := ⟨.hbm, 19, rfl⟩
abbrev main_call1_c : Ref sig .tc := ⟨.hbm, 20, rfl⟩
abbrev main_call1_v1_0 : Ref sig .tc := ⟨.hbm, 21, rfl⟩
abbrev main_v8 : Ref sig .tc := ⟨.hbm, 22, rfl⟩
abbrev main_call2_c : Ref sig .tc := ⟨.hbm, 23, rfl⟩
abbrev main_call2_v0 : Ref sig .tc := ⟨.hbm, 24, rfl⟩
abbrev main_call2_v1 : Ref sig .tc := ⟨.hbm, 25, rfl⟩
abbrev main_call2_c_0 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_call2_v5 : Ref sig .tc := ⟨.hbm, 30, rfl⟩
abbrev main_call2_c_1 : Ref sig .tc := ⟨.hbm, 31, rfl⟩
abbrev main_call2_c_2 : Ref sig .tc := ⟨.hbm, 32, rfl⟩
abbrev main_call2_v6 : Ref sig .tc := ⟨.hbm, 33, rfl⟩
abbrev main_call2_v7 : Ref sig .tc := ⟨.hbm, 34, rfl⟩
abbrev main_call2_v8 : Ref sig .tc := ⟨.hbm, 35, rfl⟩
abbrev main_call2_v9 : Ref sig .tc := ⟨.hbm, 36, rfl⟩
abbrev main_call2_v10 : Ref sig .tc := ⟨.hbm, 37, rfl⟩
abbrev main_call2_v11 : Ref sig .tc := ⟨.hbm, 38, rfl⟩
abbrev main_call2_c_3 : Ref sig .tc := ⟨.hbm, 39, rfl⟩
abbrev main_call2_v12 : Ref sig .tc := ⟨.hbm, 40, rfl⟩
abbrev main_call2_v13 : Ref sig .tc := ⟨.hbm, 41, rfl⟩
abbrev main_call2_v14 : Ref sig .tc := ⟨.hbm, 42, rfl⟩
abbrev main_call2_cst : Ref sig .tc := ⟨.hbm, 43, rfl⟩
abbrev main_call2_v15 : Ref sig .tc := ⟨.hbm, 44, rfl⟩
abbrev main_v9 : Ref sig .tc := ⟨.hbm, 45, rfl⟩
abbrev main_v10 : Ref sig .tc := ⟨.hbm, 46, rfl⟩
abbrev main_cst_0 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_cst_1 : Ref sig .tc := ⟨.hbm, 51, rfl⟩
abbrev main_v14 : Ref sig .tc := ⟨.hbm, 52, rfl⟩
abbrev main_v15 : Ref sig .tc := ⟨.hbm, 53, rfl⟩
abbrev main_cst_2 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst_3 : Ref sig .tc := ⟨.hbm, 58, rfl⟩
abbrev main_v19 : Ref sig .tc := ⟨.hbm, 59, rfl⟩
abbrev main_cst_4 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_call3_v0 : Ref sig .tc := ⟨.hbm, 65, rfl⟩
abbrev main_call3_cst : Ref sig .tc := ⟨.hbm, 66, rfl⟩
abbrev main_call3_c : Ref sig .tc := ⟨.hbm, 67, rfl⟩
abbrev main_call3_v1_0 : Ref sig .tc := ⟨.hbm, 68, rfl⟩
abbrev main_v24 : Ref sig .tc := ⟨.hbm, 69, rfl⟩
abbrev main_call4_c : Ref sig .tc := ⟨.hbm, 70, rfl⟩
abbrev main_call4_v0 : Ref sig .tc := ⟨.hbm, 71, rfl⟩
abbrev main_call4_v1 : Ref sig .tc := ⟨.hbm, 72, rfl⟩
abbrev main_call4_c_0 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_call4_v5 : Ref sig .tc := ⟨.hbm, 77, rfl⟩
abbrev main_call4_c_1 : Ref sig .tc := ⟨.hbm, 78, rfl⟩
abbrev main_call4_c_2 : Ref sig .tc := ⟨.hbm, 79, rfl⟩
abbrev main_call4_v6 : Ref sig .tc := ⟨.hbm, 80, rfl⟩
abbrev main_call4_v7 : Ref sig .tc := ⟨.hbm, 81, rfl⟩
abbrev main_call4_v8 : Ref sig .tc := ⟨.hbm, 82, rfl⟩
abbrev main_call4_v9 : Ref sig .tc := ⟨.hbm, 83, rfl⟩
abbrev main_call4_v10 : Ref sig .tc := ⟨.hbm, 84, rfl⟩
abbrev main_call4_v11 : Ref sig .tc := ⟨.hbm, 85, rfl⟩
abbrev main_call4_c_3 : Ref sig .tc := ⟨.hbm, 86, rfl⟩
abbrev main_call4_v12 : Ref sig .tc := ⟨.hbm, 87, rfl⟩
abbrev main_call4_v13 : Ref sig .tc := ⟨.hbm, 88, rfl⟩
abbrev main_call4_v14 : Ref sig .tc := ⟨.hbm, 89, rfl⟩
abbrev main_call4_cst : Ref sig .tc := ⟨.hbm, 90, rfl⟩
abbrev main_call4_v15 : Ref sig .tc := ⟨.hbm, 91, rfl⟩
abbrev main_v25 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_cst_6 : Ref sig .tc := ⟨.hbm, 98, rfl⟩
abbrev main_v30 : Ref sig .tc := ⟨.hbm, 99, rfl⟩
abbrev main_v31 : Ref sig .tc := ⟨.hbm, 100, rfl⟩
abbrev main_cst_7 : Ref sig .tc := ⟨.hbm, 101, rfl⟩
abbrev main_v32 : Ref sig .tc := ⟨.hbm, 102, rfl⟩
abbrev main_v33 : Ref sig .tc := ⟨.hbm, 103, rfl⟩
abbrev main_v34 : Ref sig .tc := ⟨.hbm, 104, rfl⟩
abbrev main_cst_8 : Ref sig .tc := ⟨.hbm, 105, rfl⟩
abbrev main_v35 : Ref sig .tc := ⟨.hbm, 106, rfl⟩
abbrev main_cst_9 : Ref sig .tc := ⟨.hbm, 107, rfl⟩
abbrev main_v36 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_call5_v0 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩

abbrev nD : Nat := 1
abbrev τ : Topo := Topo.v7x

variable {F : FTy → Type} [FloatOps F]
-- ==== Proof.HostRun.lean ====
/-
  The reference program's run. Its main is a straight line of whole-array operations; this module lists them in the order in which
  the program executes them, names the arrays they compute in a few steps (row lengths, rotated rows, chosen code indices, looked-up
  code vectors, one-bit corrections, final rows), and states that every execution ends with the result buffer holding the last of
  those arrays and with the arguments unchanged.
-/
module

public import proofs.«01_k».proof.Proof.Gen.ReferenceIdeal
public import Idealize.ShloMosaic.Lib.StableHlo.Run

@[expose] public section

noncomputable section

namespace Cert.Proof.HostRun

open Cert.ReferenceIdeal Cert.ReferenceIdeal.Gen Idealize.ShloMosaic Idealize.ShloMosaic.TcCoe Idealize.SL.Sem Idealize.ShloMosaic.StableHlo

variable {F : FTy → Type} [FloatOps F]

/-! ## The arrays, step by step -/

/-- The column of row lengths: the square root of each row's sum of squares. -/
def lengths (x : FVec F S16384x128 .f32) : FVec F S16384x1 .f32 :=
  Host.sqrt (broadcastInDim S16384x1 ![0] bcast_S16384_S16384x1_0
    (Host.reduceAdd (mulf x x) (constant S_ .f32 0x00000000#32) reducesTo_S16384x128_S16384_d1 h_S_))

/-- Each row divided by its length plus the small constant, times the rotation. -/
def rotated (x : FVec F S16384x128 .f32) (R : FVec F S128x128 .f32) : FVec F S16384x128 .f32 :=
  Host.dotGeneral dot_S16384x128_S128x128_S16384x128_1_0_0_1_n_n none
    (Host.divf x (broadcastInDim S16384x128 ![0, 1] bcast_S16384x1_S16384x128_0_1
      (addf (lengths x) (broadcastInDim S16384x1 ![] bcast_S_S16384x1 (constant S_ .f32 0x322BCC77#32))))) R

/-- The scores of every rotated row against the two base code vectors. -/
def scores2 (y : FVec F S16384x128 .f32) (C : FVec F S2x128 .f32) : FVec F S16384x2 .f32 :=
  Host.dotGeneral dot_S16384x128_S128x2_S16384x2_1_0_0_1_n_n none y (transpose S128x2 [1, 0] C transposes_S2x128_S128x2_1_0)

/-- The scores of every rotated row against the eight refined code vectors. -/
def scores8 (y : FVec F S16384x128 .f32) (C : FVec F S8x128 .f32) : FVec F S16384x8 .f32 :=
  Host.dotGeneral dot_S16384x128_S128x8_S16384x8_1_0_0_1_n_n none y (transpose S128x8 [1, 0] C transposes_S8x128_S128x8_1_0)

/-- The position of the largest of each row's two scores. -/
def argmax2 (s : FVec F S16384x2 .f32) : IVec S16384 32 := fun j =>
  (Host.argReduce reducer_argmax_f32_i32 s (iotaInDim S16384x2 32 1) (constant S_ .f32 0xFF800000#32) (constantI S_ 32 0#32)
    reducesTo_S16384x2_S16384_d1 h_S_ j).2

/-- The position of the largest of each row's eight scores. -/
def argmax8 (s : FVec F S16384x8 .f32) : IVec S16384 32 := fun j =>
  (Host.argReduce reducer_argmax_f32_i32 s (iotaInDim S16384x8 32 1) (constant S_ .f32 0xFF800000#32) (constantI S_ 32 0#32)
    reducesTo_S16384x8_S16384_d1 h_S_ j).2

/-- A vector of positions as a column, a negative position counted from the end of a list of `n`. -/
def wrapped (n : BitVec 32) (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 n))) i)

/-- Whether each position of a column lies between `0` and `top`, spread over the row. -/
def inRange (top : BitVec 32) (w : IVec S16384x1 32) : IVec S16384x128 1 :=
  broadcastInDim S16384x128 ![0] bcast_S16384_S16384x128_0
    (Host.reduce IntOp.andi
      (andi (cmpi .sge w (broadcastInDim S16384x1 ![] bcast_S_S16384x1 (constantI S_ 32 0#32)))
        (cmpi .sle w (broadcastInDim S16384x1 ![0, 1] bcast_S1x1_S16384x1_0_1
          (broadcastInDim S1x1 ![1] bcast_S1_S1x1_1 (constantI S1 32 top)))))
      (constantI S_ 1 1#1) reducesTo_S16384x1_S16384_d1 h_S_)

/-- The array of the fill value that an out-of-range look-up takes. -/
def fill : FVec F S16384x128 .f32 := broadcastInDim S16384x128 ![] bcast_S_S16384x128 (constant S_ .f32 0x7FC00000#32)

/-- The base code vector at each row's position. -/
def take2 (C : FVec F S2x128 .f32) (i : IVec S16384 32) : FVec F S16384x128 .f32 :=
  select (inRange 1#32 (wrapped 2#32 i))
    (Host.gather gather_S2x128_S16384x1_S16384x128_1_0_n_n_0_1_1128 C (wrapped 2#32 i)) fill

/-- The refined code vector at each row's position. -/
def take8 (C : FVec F S8x128 .f32) (i : IVec S16384 32) : FVec F S16384x128 .f32 :=
  select (inRange 7#32 (wrapped 8#32 i))
    (Host.gather gather_S8x128_S16384x1_S16384x128_1_0_n_n_0_1_1128 C (wrapped 8#32 i)) fill

/-- A scalar word spread over the whole array of rows. -/
def spread (w : BitVec 32) : FVec F S16384x128 .f32 := broadcastInDim S16384x128 ![] bcast_S_S16384x128 (constant S_ .f32 w)

/-- Twice the indicator of a nonnegative entry, less one. -/
def signs (r : FVec F S16384x128 .f32) : FVec F S16384x128 .f32 :=
  subf (mulf (uitofp .f32 (cmpf .oge r (spread 0x00000000#32))) (spread 0x40000000#32)) (spread 0x3F800000#32)

/-- Each row's mean absolute entry, spread over the row. -/
def meanAbs (r : FVec F S16384x128 .f32) : FVec F S16384x128 .f32 :=
  broadcastInDim S16384x128 ![0, 1] bcast_S16384x1_S16384x128_0_1 (broadcastInDim S16384x1 ![0] bcast_S16384_S16384x1_0
    (Host.divf (Host.reduceAdd (Host.absf r) (constant S_ .f32 0x00000000#32) reducesTo_S16384x128_S16384_d1 h_S_)
      (broadcastInDim S16384 ![] bcast_S_S16384 (constant S_ .f32 0x43000000#32))))

/-- A looked-up code vector corrected by the signs of what it leaves over, scaled by their mean size. -/
def corrected (y q : FVec F S16384x128 .f32) : FVec F S16384x128 .f32 := addf q (mulf (meanAbs (subf y q)) (signs (subf y q)))

/-- The rows rotated back and scaled by their lengths. -/
def restored (x z : FVec F S16384x128 .f32) (R : FVec F S128x128 .f32) : FVec F S16384x128 .f32 :=
  mulf (Host.dotGeneral dot_S16384x128_S128x128_S16384x128_1_0_0_1_n_n none z (transpose S128x128 [1, 0] R transposes_S128x128_S128x128_1_0))
    (broadcastInDim S16384x128 ![0, 1] bcast_S16384x1_S16384x128_0_1 (lengths x))

/-- Rows of `p` where the mask is set, of `q` elsewhere. -/
def choose (mask : IVec S16384 1) (p q : FVec F S16384x128 .f32) : FVec F S16384x128 .f32 :=
  select (broadcastInDim S16384x128 ![0, 1] bcast_S16384x1_S16384x128_0_1 (broadcastInDim S16384x1 ![0] bcast_S16384_S16384x1_0 mask)) p q

/-- The reference's result as a function of its five arguments. -/
def result (x : FVec F S16384x128 .f32) (mask : IVec S16384 1) (R : FVec F S128x128 .f32) (C2 : FVec F S2x128 .f32)
    (C8 : FVec F S8x128 .f32) : FVec F S16384x128 .f32 :=
  restored x
    (choose mask (corrected (rotated x R) (take8 C8 (argmax8 (scores8 (rotated x R) C8))))
      (corrected (rotated x R) (take2 C2 (argmax2 (scores2 (rotated x R) C2))))) R

/-! ## The program as a line of operations -/

/-- The main's operations in order, a called function's standing in its call's place. -/
abbrev ops : List (HloOp τ sig (Elt F)) :=
  [ TRef.binary (TRef.of (T := ⟨S16384x128, .f32⟩) main_arg0) (TRef.of (T := ⟨S16384x128, .f32⟩) main_arg0) (TRef.of (T := ⟨S16384x128, .f32⟩) main_call0_v0) mulf,
    TRef.nullary (TRef.of (T := ⟨S_, .f32⟩) main_call0_cst) (constant S_ .f32 0x00000000#32),
    TRef.binary (TRef.of (T := ⟨S16384x128, .f32⟩) main_call0_v0) (TRef.of (T := ⟨S_, .f32⟩) main_call0_cst) (TRef.of (T := ⟨S16384, .f32⟩) main_call0_v1) (fun x v => Host.reduceAdd x v reducesTo_S16384x128_S16384_d1 h_S_),
    TRef.unary (TRef.of (T := ⟨S16384, .f32⟩) main_call0_v1) (TRef.of (T := ⟨S16384x1, .f32⟩) main_call0_v2) (broadcastInDim S16384x1 ![0] bcast_S16384_S16384x1_0),
    TRef.unary (TRef.of (T := ⟨S16384x1, .f32⟩) main_call0_v2) (TRef.of (T := ⟨S16384x1, .f32⟩) main_v0) Host.sqrt,
    nullary main_cst (constant S_ .f32 0x322BCC77#32),
    unary main_cst main_v1 (broadcastInDim S16384x1 ![] bcast_S_S16384x1 : (⟨S_, .f32⟩ : BufTy).Contents (Elt F) → (⟨S16384x1, .f32⟩ : BufTy).Contents (Elt F)),
    binary main_v0 main_v1 main_v2 (addf : (⟨S16384x1, .f32⟩ : BufTy).Contents (Elt F) → (⟨S16384x1, .f32⟩ : BufTy).Contents (Elt F) → (⟨S16384x1, .f32⟩ : BufTy).Contents (Elt F)),
    unary main_v2 main_v3 (broadcastInDim S16384x128 ![0, 1] bcast_S16384x1_S16384x128_0_1 : (⟨S16384x1, .f32⟩ : BufTy).Contents (Elt F) → (⟨S16384x128, .f32⟩ : BufTy).Contents (Elt F)),
    binary main_arg0 main_v3 main_v4 (Host.divf : (⟨S16384x128, .f32⟩ : BufTy).Contents (Elt F) → (⟨S16384x128, .f32⟩ : BufTy).Contents (Elt F) → (⟨S16384x128, .f32⟩ : BufTy).Contents (Elt F)),
    binary main_v4 main_arg2 main_v5 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    unary main_arg3 main_v6 ((transpose S128x2 [1, 0] · transposes_S2x128_S128x2_1_0) : (⟨S2x128, .f32⟩ : BufTy).Contents (Elt F) → (⟨S128x2, .f32⟩ : BufTy).Contents (Elt F)),
    binary main_v5 main_v6 main_v7 ((fun l r => Host.dotGeneral dot_S16384x128_S128x2_S16384x2_1_0_0_1_n_n none l r) : (⟨S16384x128, .f32⟩ : BufTy).Contents (Elt F) → (⟨S128x2, .f32⟩ : BufTy).Contents (Elt F) → (⟨S16384x2, .f32⟩ : BufTy).Contents (Elt F)),
    TRef.nullary (TRef.of (T := ⟨S16384x2, .i32⟩) main_call1_v0) (iotaInDim S16384x2 32 1),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S16384x2, .f32⟩) main_v7) (TRef.of (T := ⟨S16384x2, .i32⟩) main_call1_v0) (TRef.of (T := ⟨S_, .f32⟩) main_call1_cst) (TRef.of (T := ⟨S_, .i32⟩) main_call1_c) (TRef.of (T := ⟨S16384, .f32⟩) main_call1_v1_0) (fun x y u v j => (Host.argReduce reducer_argmax_f32_i32 x y u v reducesTo_S16384x2_S16384_d1 h_S_ j).1),
    TRef.quaternary (TRef.of (T := ⟨S16384x2, .f32⟩) main_v7) (TRef.of (T := ⟨S16384x2, .i32⟩) main_call1_v0) (TRef.of (T := ⟨S_, .f32⟩) main_call1_cst) (TRef.of (T := ⟨S_, .i32⟩) main_call1_c) (TRef.of (T := ⟨S16384, .i32⟩) main_v8) (fun x y u v j => (Host.argReduce reducer_argmax_f32_i32 x y u v reducesTo_S16384x2_S16384_d1 h_S_ j).2),
    TRef.nullary (TRef.of (T := ⟨S_, .i32⟩) main_call2_c) (constantI S_ 32 0#32),
    TRef.unary (TRef.of (T := ⟨S_, .i32⟩) main_call2_c) (TRef.of (T := ⟨S16384, .i32⟩) main_call2_v0) (broadcastInDim S16384 ![] bcast_S_S16384),
    TRef.binary (TRef.of (T := ⟨S16384, .i32⟩) main_v8) (TRef.of (T := ⟨S16384, .i32⟩) main_call2_v0) (TRef.of (T := ⟨S16384, .i1⟩) main_call2_v1) (cmpi .slt),
    TRef.nullary (TRef.of (T := ⟨S_, .i32⟩) main_call2_c_0) (constantI S_ 32 2#32),
    TRef.unary (TRef.of (T := ⟨S_, .i32⟩) main_call2_c_0) (TRef.of (T := ⟨S16384, .i32⟩) main_call2_v2) (broadcastInDim S16384 ![] bcast_S_S16384),
    TRef.binary (TRef.of (T := ⟨S16384, .i32⟩) main_v8) (TRef.of (T := ⟨S16384, .i32⟩) main_call2_v2) (TRef.of (T := ⟨S16384, .i32⟩) main_call2_v3) addi,
    TRef.ternary (TRef.of (T := ⟨S16384, .i1⟩) main_call2_v1) (TRef.of (T := ⟨S16384, .i32⟩) main_call2_v3) (TRef.of (T := ⟨S16384, .i32⟩) main_v8) (TRef.of (T := ⟨S16384, .i32⟩) main_call2_v4) select,
    TRef.unary (TRef.of (T := ⟨S16384, .i32⟩) main_call2_v4) (TRef.of (T := ⟨S16384x1, .i32⟩) main_call2_v5) (broadcastInDim S16384x1 ![0] bcast_S16384_S16384x1_0),
    TRef.nullary (TRef.of (T := ⟨S1, .i32⟩) main_call2_c_1) (constantI S1 32 1#32),
    TRef.nullary (TRef.of (T := ⟨S_, .i32⟩) main_call2_c_2) (constantI S_ 32 0#32),
    TRef.unary (TRef.of (T := ⟨S_, .i32⟩) main_call2_c_2) (TRef.of (T := ⟨S16384x1, .i32⟩) main_call2_v6) (broadcastInDim S16384x1 ![] bcast_S_S16384x1),
    TRef.binary (TRef.of (T := ⟨S16384x1, .i32⟩) main_call2_v5) (TRef.of (T := ⟨S16384x1, .i32⟩) main_call2_v6) (TRef.of (T := ⟨S16384x1, .i1⟩) main_call2_v7) (cmpi .sge),
    TRef.unary (TRef.of (T := ⟨S1, .i32⟩) main_call2_c_1) (TRef.of (T := ⟨S1x1, .i32⟩) main_call2_v8) (broadcastInDim S1x1 ![1] bcast_S1_S1x1_1),
    TRef.unary (TRef.of (T := ⟨S1x1, .i32⟩) main_call2_v8) (TRef.of (T := ⟨S16384x1, .i32⟩) main_call2_v9) (broadcastInDim S16384x1 ![0, 1] bcast_S1x1_S16384x1_0_1),
    TRef.binary (TRef.of (T := ⟨S16384x1, .i32⟩) main_call2_v5) (TRef.of (T := ⟨S16384x1, .i32⟩) main_call2_v9) (TRef.of (T := ⟨S16384x1, .i1⟩) main_call2_v10) (cmpi .sle),
    TRef.binary (TRef.of (T := ⟨S16384x1, .i1⟩) main_call2_v7) (TRef.of (T := ⟨S16384x1, .i1⟩) main_call2_v10) (TRef.of (T := ⟨S16384x1, .i1⟩) main_call2_v11) andi,
    TRef.nullary (TRef.of (T := ⟨S_, .i1⟩) main_call2_c_3) (constantI S_ 1 1#1),
    TRef.binary (TRef.of (T := ⟨S16384x1, .i1⟩) main_call2_v11) (TRef.of (T := ⟨S_, .i1⟩) main_call2_c_3) (TRef.of (T := ⟨S16384, .i1⟩) main_call2_v12) (fun x v => Host.reduce IntOp.andi x v reducesTo_S16384x1_S16384_d1 h_S_),
    TRef.binary (TRef.of (T := ⟨S2x128, .f32⟩) main_arg3) (TRef.of (T := ⟨S16384x1, .i32⟩) main_call2_v5) (TRef.of (T := ⟨S16384x128, .f32⟩) main_call2_v13) (fun x i => Host.gather gather_S2x128_S16384x1_S16384x128_1_0_n_n_0_1_1128 x i),
    TRef.unary (TRef.of (T := ⟨S16384, .i1⟩) main_call2_v12) (TRef.of (T := ⟨S16384x128, .i1⟩) main_call2_v14) (broadcastInDim S16384x128 ![0] bcast_S16384_S16384x128_0),
    TRef.nullary (TRef.of (T := ⟨S_, .f32⟩) main_call2_cst) (constant S_ .f32 0x7FC00000#32),
    TRef.unary (TRef.of (T := ⟨S_, .f32⟩) main_call2_cst) (TRef.of (T := ⟨S16384x128, .f32⟩) main_call2_v15) (broadcastInDim S16384x128 ![] bcast_S_S16384x128),
    TRef.ternary (TRef.of (T := ⟨S16384x128, .i1⟩) main_call2_v14) (TRef.of (T := ⟨S16384x128, .f32⟩) main_call2_v13) (TRef.of (T := ⟨S16384x128, .f32⟩) main_call2_v15) (TRef.of (T := ⟨S16384x128, .f32⟩) main_v9) select,
    binary main_v5 main_v9 main_v10 (subf : (⟨S16384x128, .f32⟩ : BufTy).Contents (Elt F) → (⟨S16384x128, .f32⟩ : BufTy).Contents (Elt F) → (⟨S16384x128, .f32⟩ : BufTy).Contents (Elt F)),
    nullary main_cst_0 (constant S_ .f32 0x00000000#32),
    unary main_cst_0 main_v11 (broadcastInDim S16384x128 ![] bcast_S_S16384x128 : (⟨S_, .f32⟩ : BufTy).Contents (Elt F) → (⟨S16384x128, .f32⟩ : BufTy).Contents (Elt F)),
    binary main_v10 main_v11 main_v12 (cmpf .oge : (⟨S16384x128, .f32⟩ : BufTy).Contents (Elt F) → (⟨S16384x128, .f32⟩ : BufTy).Contents (Elt F) → (⟨S16384x128, .i1⟩ : BufTy).Contents (Elt F)),
    unary main_v12 main_v13 (uitofp .f32 : (⟨S16384x128, .i1⟩ : BufTy).Contents (Elt F) → (⟨S16384x128, .f32⟩ : BufTy).Contents (Elt F)),
    nullary main_cst_1 (constant S_ .f32 0x40000000#32),
    unary main_cst_1 main_v14 (broadcastInDim S16384x128 ![] bcast_S_S16384x128 : (⟨S_, .f32⟩ : BufTy).Contents (Elt F) → (⟨S16384x128, .f32⟩ : BufTy).Contents (Elt F)),
    binary main_v13 main_v14 main_v15 (mulf : (⟨S16384x128, .f32⟩ : BufTy).Contents (Elt F) → (⟨S16384x128, .f32⟩ : BufTy).Contents (Elt F) → (⟨S16384x128, .f32⟩ : BufTy).Contents (Elt F)),
    nullary main_cst_2 (constant S_ .f32 0x3F800000#32),
    unary main_cst_2 main_v16 (broadcastInDim S16384x128 ![] bcast_S_S16384x128 : (⟨S_, .f32⟩ : BufTy).Contents (Elt F) → (⟨S16384x128, .f32⟩ : BufTy).Contents (Elt F)),
    binary main_v15 main_v16 main_v17 (subf : (⟨S16384x128, .f32⟩ : BufTy).Contents (Elt F) → (⟨S16384x128, .f32⟩ : BufTy).Contents (Elt F) → (⟨S16384x128, .f32⟩ : BufTy).Contents (Elt F)),
    unary main_v10 main_v18 (Host.absf : (⟨S16384x128, .f32⟩ : BufTy).Contents (Elt F) → (⟨S16384x128, .f32⟩ : BufTy).Contents (Elt F)),
    nullary main_cst_3 (constant S_ .f32 0x00000000#32),
    binary main_v18 main_cst_3 main_v19 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    nullary main_cst_4 (constant S_ .f32 0x43000000#32),
    unary main_cst_4 main_v20 (broadcastInDim S16384 ![] bcast_S_S16384 : (⟨S_, .f32⟩ : BufTy).Contents (Elt F) → (⟨S16384, .f32⟩ : BufTy).Contents (Elt F)),
    binary main_v19 main_v20 main_v21 (Host.divf : (⟨S16384, .f32⟩ : BufTy).Contents (Elt F) → (⟨S16384, .f32⟩ : BufTy).Contents (Elt F) → (⟨S16384, .f32⟩ : BufTy).Contents (Elt F)),
    unary main_arg4 main_v22 ((transpose S128x8 [1, 0] · transposes_S8x128_S128x8_1_0) : (⟨S8x128, .f32⟩ : BufTy).Contents (Elt F) → (⟨S128x8, .f32⟩ : BufTy).Contents (Elt F)),
    binary main_v5 main_v22 main_v23 ((fun l r => Host.dotGeneral dot_S16384x128_S128x8_S16384x8_1_0_0_1_n_n none l r) : (⟨S16384x128, .f32⟩ : BufTy).Contents (Elt F) → (⟨S128x8, .f32⟩ : BufTy).Contents (Elt F) → (⟨S16384x8, .f32⟩ : BufTy).Contents (Elt F)),
    TRef.nullary (TRef.of (T := ⟨S16384x8, .i32⟩) main_call3_v0) (iotaInDim S16384x8 32 1),
    TRef.nullary (TRef.of (T := ⟨S_, .f32⟩) main_call3_cst) (constant S_ .f32 0xFF800000#32),
    TRef.nullary (TRef.of (T := ⟨S_, .i32⟩) main_call3_c) (constantI S_ 32 0#32),
    TRef.quaternary (TRef.of (T := ⟨S16384x8, .f32⟩) main_v23) (TRef.of (T := ⟨S16384x8, .i32⟩) main_call3_v0) (TRef.of (T := ⟨S_, .f32⟩) main_call3_cst) (TRef.of (T := ⟨S_, .i32⟩) main_call3_c) (TRef.of (T := ⟨S16384, .f32⟩) main_call3_v1_0) (fun x y u v j => (Host.argReduce reducer_argmax_f32_i32 x y u v reducesTo_S16384x8_S16384_d1 h_S_ j).1),
    TRef.quaternary (TRef.of (T := ⟨S16384x8, .f32⟩) main_v23) (TRef.of (T := ⟨S16384x8, .i32⟩) main_call3_v0) (TRef.of (T := ⟨S_, .f32⟩) main_call3_cst) (TRef.of (T := ⟨S_, .i32⟩) main_call3_c) (TRef.of (T := ⟨S16384, .i32⟩) main_v24) (fun x y u v j => (Host.argReduce reducer_argmax_f32_i32 x y u v reducesTo_S16384x8_S16384_d1 h_S_ j).2),
    TRef.nullary (TRef.of (T := ⟨S_, .i32⟩) main_call4_c) (constantI S_ 32 0#32),
    TRef.unary (TRef.of (T := ⟨S_, .i32⟩) main_call4_c) (TRef.of (T := ⟨S16384, .i32⟩) main_call4_v0) (broadcastInDim S16384 ![] bcast_S_S16384),
    TRef.binary (TRef.of (T := ⟨S16384, .i32⟩) main_v24) (TRef.of (T := ⟨S16384, .i32⟩) main_call4_v0) (TRef.of (T := ⟨S16384, .i1⟩) main_call4_v1) (cmpi .slt),
    TRef.nullary (TRef.of (T := ⟨S_, .i32⟩) main_call4_c_0) (constantI S_ 32 8#32),
    TRef.unary (TRef.of (T := ⟨S_, .i32⟩) main_call4_c_0) (TRef.of (T := ⟨S16384, .i32⟩) main_call4_v2) (broadcastInDim S16384 ![] bcast_S_S16384),
    TRef.binary (TRef.of (T := ⟨S16384, .i32⟩) main_v24) (TRef.of (T := ⟨S16384, .i32⟩) main_call4_v2) (TRef.of (T := ⟨S16384, .i32⟩) main_call4_v3) addi,
    TRef.ternary (TRef.of (T := ⟨S16384, .i1⟩) main_call4_v1) (TRef.of (T := ⟨S16384, .i32⟩) main_call4_v3) (TRef.of (T := ⟨S16384, .i32⟩) main_v24) (TRef.of (T := ⟨S16384, .i32⟩) main_call4_v4) select,
    TRef.unary (TRef.of (T := ⟨S16384, .i32⟩) main_call4_v4) (TRef.of (T := ⟨S16384x1, .i32⟩) main_call4_v5) (broadcastInDim S16384x1 ![0] bcast_S16384_S16384x1_0),
    TRef.nullary (TRef.of (T := ⟨S1, .i32⟩) main_call4_c_1) (constantI S1 32 7#32),
    TRef.nullary (TRef.of (T := ⟨S_, .i32⟩) main_call4_c_2) (constantI S_ 32 0#32),
    TRef.unary (TRef.of (T := ⟨S_, .i32⟩) main_call4_c_2) (TRef.of (T := ⟨S16384x1, .i32⟩) main_call4_v6) (broadcastInDim S16384x1 ![] bcast_S_S16384x1),
    TRef.binary (TRef.of (T := ⟨S16384x1, .i32⟩) main_call4_v5) (TRef.of (T := ⟨S16384x1, .i32⟩) main_call4_v6) (TRef.of (T := ⟨S16384x1, .i1⟩) main_call4_v7) (cmpi .sge),
    TRef.unary (TRef.of (T := ⟨S1, .i32⟩) main_call4_c_1) (TRef.of (T := ⟨S1x1, .i32⟩) main_call4_v8) (broadcastInDim S1x1 ![1] bcast_S1_S1x1_1),
    TRef.unary (TRef.of (T := ⟨S1x1, .i32⟩) main_call4_v8) (TRef.of (T := ⟨S16384x1, .i32⟩) main_call4_v9) (broadcastInDim S16384x1 ![0, 1] bcast_S1x1_S16384x1_0_1),
    TRef.binary (TRef.of (T := ⟨S16384x1, .i32⟩) main_call4_v5) (TRef.of (T := ⟨S16384x1, .i32⟩) main_call4_v9) (TRef.of (T := ⟨S16384x1, .i1⟩) main_call4_v10) (cmpi .sle),
    TRef.binary (TRef.of (T := ⟨S16384x1, .i1⟩) main_call4_v7) (TRef.of (T := ⟨S16384x1, .i1⟩) main_call4_v10) (TRef.of (T := ⟨S16384x1, .i1⟩) main_call4_v11) andi,
    TRef.nullary (TRef.of (T := ⟨S_, .i1⟩) main_call4_c_3) (constantI S_ 1 1#1),
    TRef.binary (TRef.of (T := ⟨S16384x1, .i1⟩) main_call4_v11) (TRef.of (T := ⟨S_, .i1⟩) main_call4_c_3) (TRef.of (T := ⟨S16384, .i1⟩) main_call4_v12) (fun x v => Host.reduce IntOp.andi x v reducesTo_S16384x1_S16384_d1 h_S_),
    TRef.binary (TRef.of (T := ⟨S8x128, .f32⟩) main_arg4) (TRef.of (T := ⟨S16384x1, .i32⟩) main_call4_v5) (TRef.of (T := ⟨S16384x128, .f32⟩) main_call4_v13) (fun x i => Host.gather gather_S8x128_S16384x1_S16384x128_1_0_n_n_0_1_1128 x i),
    TRef.unary (TRef.of (T := ⟨S16384, .i1⟩) main_call4_v12) (TRef.of (T := ⟨S16384x128, .i1⟩) main_call4_v14) (broadcastInDim S16384x128 ![0] bcast_S16384_S16384x128_0),
    TRef.nullary (TRef.of (T := ⟨S_, .f32⟩) main_call4_cst) (constant S_ .f32 0x7FC00000#32),
    TRef.unary (TRef.of (T := ⟨S_, .f32⟩) main_call4_cst) (TRef.of (T := ⟨S16384x128, .f32⟩) main_call4_v15) (broadcastInDim S16384x128 ![] bcast_S_S16384x128),
    TRef.ternary (TRef.of (T := ⟨S16384x128, .i1⟩) main_call4_v14) (TRef.of (T := ⟨S16384x128, .f32⟩) main_call4_v13) (TRef.of (T := ⟨S16384x128, .f32⟩) main_call4_v15) (TRef.of (T := ⟨S16384x128, .f32⟩) main_v25) select,
    binary main_v5 main_v25 main_v26 (subf : (⟨S16384x128, .f32⟩ : BufTy).Contents (Elt F) → (⟨S16384x128, .f32⟩ : BufTy).Contents (Elt F) → (⟨S16384x128, .f32⟩ : BufTy).Contents (Elt F)),
    nullary main_cst_5 (constant S_ .f32 0x00000000#32),
    unary main_cst_5 main_v27 (broadcastInDim S16384x128 ![] bcast_S_S16384x128 : (⟨S_, .f32⟩ : BufTy).Contents (Elt F) → (⟨S16384x128, .f32⟩ : BufTy).Contents (Elt F)),
    binary main_v26 main_v27 main_v28 (cmpf .oge : (⟨S16384x128, .f32⟩ : BufTy).Contents (Elt F) → (⟨S16384x128, .f32⟩ : BufTy).Contents (Elt F) → (⟨S16384x128, .i1⟩ : BufTy).Contents (Elt F)),
    unary main_v28 main_v29 (uitofp .f32 : (⟨S16384x128, .i1⟩ : BufTy).Contents (Elt F) → (⟨S16384x128, .f32⟩ : BufTy).Contents (Elt F)),
    nullary main_cst_6 (constant S_ .f32 0x40000000#32),
    unary main_cst_6 main_v30 (broadcastInDim S16384x128 ![] bcast_S_S16384x128 : (⟨S_, .f32⟩ : BufTy).Contents (Elt F) → (⟨S16384x128, .f32⟩ : BufTy).Contents (Elt F)),
    binary main_v29 main_v30 main_v31 (mulf : (⟨S16384x128, .f32⟩ : BufTy).Contents (Elt F) → (⟨S16384x128, .f32⟩ : BufTy).Contents (Elt F) → (⟨S16384x128, .f32⟩ : BufTy).Contents (Elt F)),
    nullary main_cst_7 (constant S_ .f32 0x3F800000#32),
    unary main_cst_7 main_v32 (broadcastInDim S16384x128 ![] bcast_S_S16384x128 : (⟨S_, .f32⟩ : BufTy).Contents (Elt F) → (⟨S16384x128, .f32⟩ : BufTy).Contents (Elt F)),
    binary main_v31 main_v32 main_v33 (subf : (⟨S16384x128, .f32⟩ : BufTy).Contents (Elt F) → (⟨S16384x128, .f32⟩ : BufTy).Contents (Elt F) → (⟨S16384x128, .f32⟩ : BufTy).Contents (Elt F)),
    unary main_v26 main_v34 (Host.absf : (⟨S16384x128, .f32⟩ : BufTy).Contents (Elt F) → (⟨S16384x128, .f32⟩ : BufTy).Contents (Elt F)),
    nullary main_cst_8 (constant S_ .f32 0x00000000#32),
    binary main_v34 main_cst_8 main_v35 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    nullary main_cst_9 (constant S_ .f32 0x43000000#32),
    unary main_cst_9 main_v36 (broadcastInDim S16384 ![] bcast_S_S16384 : (⟨S_, .f32⟩ : BufTy).Contents (Elt F) → (⟨S16384, .f32⟩ : BufTy).Contents (Elt F)),
    binary main_v35 main_v36 main_v37 (Host.divf : (⟨S16384, .f32⟩ : BufTy).Contents (Elt F) → (⟨S16384, .f32⟩ : BufTy).Contents (Elt F) → (⟨S16384, .f32⟩ : BufTy).Contents (Elt F)),
    unary main_v21 main_v38 (broadcastInDim S16384x1 ![0] bcast_S16384_S16384x1_0 : (⟨S16384, .f32⟩ : BufTy).Contents (Elt F) → (⟨S16384x1, .f32⟩ : BufTy).Contents (Elt F)),
    unary main_v38 main_v39 (broadcastInDim S16384x128 ![0, 1] bcast_S16384x1_S16384x128_0_1 : (⟨S16384x1, .f32⟩ : BufTy).Contents (Elt F) → (⟨S16384x128, .f32⟩ : BufTy).Contents (Elt F)),
    binary main_v39 main_v17 main_v40 (mulf : (⟨S16384x128, .f32⟩ : BufTy).Contents (Elt F) → (⟨S16384x128, .f32⟩ : BufTy).Contents (Elt F) → (⟨S16384x128, .f32⟩ : BufTy).Contents (Elt F)),
    binary main_v9 main_v40 main_v41 (addf : (⟨S16384x128, .f32⟩ : BufTy).Contents (Elt F) → (⟨S16384x128, .f32⟩ : BufTy).Contents (Elt F) → (⟨S16384x128, .f32⟩ : BufTy).Contents (Elt F)),
    unary main_v37 main_v42 (broadcastInDim S16384x1 ![0] bcast_S16384_S16384x1_0 : (⟨S16384, .f32⟩ : BufTy).Contents (Elt F) → (⟨S16384x1, .f32⟩ : BufTy).Contents (Elt F)),
    unary main_v42 main_v43 (broadcastInDim S16384x128 ![0, 1] bcast_S16384x1_S16384x128_0_1 : (⟨S16384x1, .f32⟩ : BufTy).Contents (Elt F) → (⟨S16384x128, .f32⟩ : BufTy).Contents (Elt F)),
    binary main_v43 main_v33 main_v44 (mulf : (⟨S16384x128, .f32⟩ : BufTy).Contents (Elt F) → (⟨S16384x128, .f32⟩ : BufTy).Contents (Elt F) → (⟨S16384x128, .f32⟩ : BufTy).Contents (Elt F)),
    binary main_v25 main_v44 main_v45 (addf : (⟨S16384x128, .f32⟩ : BufTy).Contents (Elt F) → (⟨S16384x128, .f32⟩ : BufTy).Contents (Elt F) → (⟨S16384x128, .f32⟩ : BufTy).Contents (Elt F)),
    unary main_arg1 main_v46 (broadcastInDim S16384x1 ![0] bcast_S16384_S16384x1_0 : (⟨S16384, .i1⟩ : BufTy).Contents (Elt F) → (⟨S16384x1, .i1⟩ : BufTy).Contents (Elt F)),
    TRef.unary (TRef.of (T := ⟨S16384x1, .i1⟩) main_v46) (TRef.of (T := ⟨S16384x128, .i1⟩) main_call5_v0) (broadcastInDim S16384x128 ![0, 1] bcast_S16384x1_S16384x128_0_1),
    TRef.ternary (TRef.of (T := ⟨S16384x128, .i1⟩) main_call5_v0) (TRef.of (T := ⟨S16384x128, .f32⟩) main_v45) (TRef.of (T := ⟨S16384x128, .f32⟩) main_v41) (TRef.of (T := ⟨S16384x128, .f32⟩) main_v47) select,
    unary main_arg2 main_v48 ((transpose S128x128 [1, 0] · transposes_S128x128_S128x128_1_0) : (⟨S128x128, .f32⟩ : BufTy).Contents (Elt F) → (⟨S128x128, .f32⟩ : BufTy).Contents (Elt F)),
    binary main_v47 main_v48 main_v49 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    unary main_v0 main_v50 (broadcastInDim S16384x128 ![0, 1] bcast_S16384x1_S16384x128_0_1 : (⟨S16384x1, .f32⟩ : BufTy).Contents (Elt F) → (⟨S16384x128, .f32⟩ : BufTy).Contents (Elt F)),
    binary main_v49 main_v50 main_v51 (mulf : (⟨S16384x128, .f32⟩ : BufTy).Contents (Elt F) → (⟨S16384x128, .f32⟩ : BufTy).Contents (Elt F) → (⟨S16384x128, .f32⟩ : BufTy).Contents (Elt F)) ]

set_option maxRecDepth 8192 in
set_option maxHeartbeats 4000000 in
/-- The main is that line. -/
theorem main_line (c : Dev nD) : main (F := F) c = seq ops := rfl

/-- The program scopes no buffer. -/
theorem no_scoped_refs : (Finset.univ.filter fun b : Ref sig .tc => b.isScoped) = ∅ := by decide

/-- The program scopes no semaphore. -/
theorem no_scoped_sems : (Finset.univ.filter fun sm : SemLoc sig => sm.isScoped .tc) = ∅ := by decide

set_option maxRecDepth 8192 in
/-- Every operation touches buffers of the one core only. -/
theorem ops_within : (ops : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., nullary_bufs_sub .., binary_bufs_sub .., nullary_bufs_sub .., unary_bufs_sub .., binary_bufs_sub .., unary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., ternary_bufs_sub .., unary_bufs_sub .., binary_bufs_sub .., unary_bufs_sub .., binary_bufs_sub ..⟩

set_option maxRecDepth 16384 in
set_option maxHeartbeats 80000000 in
/-- From any memory with zero counters every execution terminates, the result buffer holding `result` of the arguments, and the
    arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51)
          = result (F := F) (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c main_v51).trans (by
        simp only [ops, TRef.binary, TRef.nullary, TRef.ternary, TRef.quaternary, TRef.unary, TRef.toBuf, TRef.ofBuf, cast_eq]
        after_results_simp <;> rfl),
      (h c main_arg0).trans (by
        simp only [ops, TRef.binary, TRef.nullary, TRef.ternary, TRef.quaternary, TRef.unary, TRef.toBuf, TRef.ofBuf, cast_eq]
        after_results_simp <;> rfl),
      (h c main_arg1).trans (by
        simp only [ops, TRef.binary, TRef.nullary, TRef.ternary, TRef.quaternary, TRef.unary, TRef.toBuf, TRef.ofBuf, cast_eq]
        after_results_simp <;> rfl),
      (h c main_arg2).trans (by
        simp only [ops, TRef.binary, TRef.nullary, TRef.ternary, TRef.quaternary, TRef.unary, TRef.toBuf, TRef.ofBuf, cast_eq]
        after_results_simp <;> rfl),
      (h c main_arg3).trans (by
        simp only [ops, TRef.binary, TRef.nullary, TRef.ternary, TRef.quaternary, TRef.unary, TRef.toBuf, TRef.ofBuf, cast_eq]
        after_results_simp <;> rfl),
      (h c main_arg4).trans (by
        simp only [ops, TRef.binary, TRef.nullary, TRef.ternary, TRef.quaternary, TRef.unary, TRef.toBuf, TRef.ofBuf, cast_eq]
        after_results_simp <;> rfl)⟩)
    (run_seq no_scoped_refs no_scoped_sems defs main (fun _ => ops) main_line (fun _ => ops_within) m ρ)

end Cert.Proof.HostRun

end
-- ==== Proof.Rows.lean ====
/-
  The mathematics of one row over the extended reals: its length, the rotated row, its scores against a code vector, the first
  position of a largest score, the code vector corrected by the signs of what it leaves over, and the row rotated back. Nothing here
  mentions a program. The lemmas say that the two ways of finding the first largest score (a fold that keeps the better pair; a
  maximum followed by a chain of tests) agree, that a sum against an indicator picks one code vector, and that correcting a code
  vector joined from its parts is correcting the code vector, its infinite entries included.
-/
module

public import Idealize.ShloMosaic.PureOps.Ideal

@[expose] public section

noncomputable section

namespace Cert.Proof.Rows

open Idealize.ShloMosaic
open scoped BigOperators

/-! ## The row's functions -/

/-- The small number added to a length before dividing by it. -/
def eps : EReal := Ideal.ofBits .f32 0x322BCC77#32

/-- The number of entries in a row, as the programs spell it. -/
def width : EReal := Ideal.ofBits .f32 0x43000000#32

/-- A row's length. -/
def len (x : Fin 128 → EReal) : EReal := Ideal.sqrt (∑ d, x d * x d)

/-- A row divided by its length plus the small number, times the rotation. -/
def rot (x : Fin 128 → EReal) (R : Fin 128 → Fin 128 → EReal) (d : Fin 128) : EReal :=
  ∑ k, Ideal.div (x k) (len x + eps) * R k d

/-- The score of a rotated row against a code vector. -/
def score (y c : Fin 128 → EReal) : EReal := ∑ d, y d * c d

/-- One for a nonnegative number, minus one for a negative one. -/
def sgn (r : EReal) : EReal := if 0 ≤ r then 1 else -1

/-- The mean size of what a code vector leaves over of a row. -/
def scale (y q : Fin 128 → EReal) : EReal := Ideal.div (∑ d, max (y d - q d) (-(y d - q d))) width

/-- A code vector corrected by the signs of what it leaves over, scaled by their mean size. -/
def corr (y q : Fin 128 → EReal) (d : Fin 128) : EReal := q d + scale y q * sgn (y d - q d)

/-- A row rotated back and multiplied by a length. -/
def back (n : EReal) (z : Fin 128 → EReal) (R : Fin 128 → Fin 128 → EReal) (d : Fin 128) : EReal := (∑ k, z k * R d k) * n

/-! ## The first largest score -/

/-- `k` is the first position at which `s` is largest. -/
def IsFirst {n : Nat} (s : Fin n → EReal) (k : Fin n) : Prop := (∀ j, s j ≤ s k) ∧ ∀ j, j < k → s j < s k

/-- There is at most one first largest position. -/
theorem IsFirst.unique {n : Nat} {s : Fin n → EReal} {a b : Fin n} (ha : IsFirst s a) (hb : IsFirst s b) : a = b := by
  rcases lt_trichotomy a b with h | h | h
  · exact absurd (hb.2 a h) (not_lt.2 (ha.1 b))
  · exact h
  · exact absurd (ha.2 b h) (not_lt.2 (hb.1 a))

/-- A nonempty family has a first largest position. -/
theorem exists_isFirst {n : Nat} (s : Fin (n + 1) → EReal) : ∃ k, IsFirst s k := by
  obtain ⟨m, hm⟩ := Finite.exists_max s
  let T : Finset (Fin (n + 1)) := Finset.univ.filter fun k => ∀ j, s j ≤ s k
  have hT : T.Nonempty := ⟨m, by simpa [T] using hm⟩
  have hk : T.min' hT ∈ T := T.min'_mem hT
  refine ⟨T.min' hT, by simpa [T] using hk, fun j hj => ?_⟩
  by_contra hc
  have hmem : j ∈ T := by
    simp only [T, Finset.mem_filter, Finset.mem_univ, true_and] at hk ⊢
    exact fun i => (hk i).trans (not_lt.1 hc)
  exact absurd hj (not_lt.2 (T.min'_le j hmem))

/-- The first largest position. -/
def first {n : Nat} (s : Fin (n + 1) → EReal) : Fin (n + 1) := Classical.choose (exists_isFirst s)

/-- It is one. -/
theorem first_isFirst {n : Nat} (s : Fin (n + 1) → EReal) : IsFirst s (first s) := Classical.choose_spec (exists_isFirst s)

/-- Whatever is a first largest position is that one. -/
theorem eq_first {n : Nat} {s : Fin (n + 1) → EReal} {k : Fin (n + 1)} (h : IsFirst s k) : k = first s :=
  h.unique (first_isFirst s)

/-- A row's result: the chosen code vector corrected, rotated back and scaled. The mask picks the refined codebook. -/
def out (x : Fin 128 → EReal) (mask : Prop) [Decidable mask] (R : Fin 128 → Fin 128 → EReal) (C2 : Fin 2 → Fin 128 → EReal)
    (C8 : Fin 8 → Fin 128 → EReal) (d : Fin 128) : EReal :=
  back (len x)
    (if mask then corr (rot x R) (C8 (first fun k => score (rot x R) (C8 k)))
      else corr (rot x R) (C2 (first fun k => score (rot x R) (C2 k)))) R d

/-! ## The words the programs compute with -/

/-- A selection on a decided comparison is the conditional. -/
theorem select_ofBool {α : Type} (p : Prop) [Decidable p] (a b : α) :
    Scalar.select (BitVec.ofBool (decide p)) a b = if p then a else b := by
  by_cases h : p <;> simp [h, Scalar.select]

/-- The tests of two scores give the first largest position. -/
theorem word2 (s : Fin 2 → EReal) : (Ideal.cmp .ogt (s 1) (s 0)).setWidth 32 = BitVec.ofNat 32 (first s).val := by
  by_cases h : s 0 < s 1
  · have e : (1 : Fin 2) = first s := eq_first ⟨fun j => by
      match j with
      | ⟨0, _⟩ => exact h.le
      | ⟨1, _⟩ => exact le_rfl, fun j hj => by
      match j with
      | ⟨0, _⟩ => exact h
      | ⟨1, _⟩ => exact absurd hj (lt_irrefl _)⟩
    rw [← e]; simp [Ideal.cmp, h]
  · have e : (0 : Fin 2) = first s := eq_first ⟨fun j => by
      match j with
      | ⟨0, _⟩ => exact le_rfl
      | ⟨1, _⟩ => exact not_lt.1 h, fun j hj => absurd hj (Fin.not_lt_zero j)⟩
    rw [← e]; simp [Ideal.cmp, h]

/-- The largest of eight scores, taken one after another. -/
def max8 (s : Fin 8 → EReal) : EReal :=
  max (max (max (max (max (max (max (s 0) (s 1)) (s 2)) (s 3)) (s 4)) (s 5)) (s 6)) (s 7)

/-- It is the score at the first largest position. -/
theorem max8_eq (s : Fin 8 → EReal) {k : Fin 8} (h : IsFirst s k) : max8 s = s k := by
  apply le_antisymm
  · simp only [max8, max_le_iff]
    exact ⟨⟨⟨⟨⟨⟨⟨h.1 0, h.1 1⟩, h.1 2⟩, h.1 3⟩, h.1 4⟩, h.1 5⟩, h.1 6⟩, h.1 7⟩
  · match k with
    | ⟨0, _⟩ | ⟨1, _⟩ | ⟨2, _⟩ | ⟨3, _⟩ | ⟨4, _⟩ | ⟨5, _⟩ | ⟨6, _⟩ | ⟨7, _⟩ => simp [max8]

/-- The chain of tests of eight scores against their largest gives two more than the first largest position. -/
theorem word8 (s : Fin 8 → EReal) :
    Scalar.select (Ideal.cmp .oeq (s 0) (max8 s)) 2#32
      (Scalar.select (Ideal.cmp .oeq (s 1) (max8 s)) 3#32
        (Scalar.select (Ideal.cmp .oeq (s 2) (max8 s)) 4#32
          (Scalar.select (Ideal.cmp .oeq (s 3) (max8 s)) 5#32
            (Scalar.select (Ideal.cmp .oeq (s 4) (max8 s)) 6#32
              (Scalar.select (Ideal.cmp .oeq (s 5) (max8 s)) 7#32
                (Scalar.select (Ideal.cmp .oeq (s 6) (max8 s)) 8#32 9#32))))))
      = BitVec.ofNat 32 (2 + (first s).val) := by
  have h := first_isFirst s
  rw [max8_eq s h]
  generalize first s = k at h
  have hne : ∀ j, j < k → s j ≠ s k := fun j hj => (h.2 j hj).ne
  simp only [Ideal.cmp, select_ofBool]
  match k, hne with
  | ⟨0, _⟩, _ => simp
  | ⟨1, _⟩, hne => rw [if_neg (hne 0 (Nat.le_of_ble_eq_true rfl))]; simp
  | ⟨2, _⟩, hne => rw [if_neg (hne 0 (Nat.le_of_ble_eq_true rfl)), if_neg (hne 1 (Nat.le_of_ble_eq_true rfl))]; simp
  | ⟨3, _⟩, hne => rw [if_neg (hne 0 (Nat.le_of_ble_eq_true rfl)), if_neg (hne 1 (Nat.le_of_ble_eq_true rfl)), if_neg (hne 2 (Nat.le_of_ble_eq_true rfl))]; simp
  | ⟨4, _⟩, hne =>
    rw [if_neg (hne 0 (Nat.le_of_ble_eq_true rfl)), if_neg (hne 1 (Nat.le_of_ble_eq_true rfl)), if_neg (hne 2 (Nat.le_of_ble_eq_true rfl)), if_neg (hne 3 (Nat.le_of_ble_eq_true rfl))]; simp
  | ⟨5, _⟩, hne =>
    rw [if_neg (hne 0 (Nat.le_of_ble_eq_true rfl)), if_neg (hne 1 (Nat.le_of_ble_eq_true rfl)), if_neg (hne 2 (Nat.le_of_ble_eq_true rfl)), if_neg (hne 3 (Nat.le_of_ble_eq_true rfl)),
      if_neg (hne 4 (Nat.le_of_ble_eq_true rfl))]; simp
  | ⟨6, _⟩, hne =>
    rw [if_neg (hne 0 (Nat.le_of_ble_eq_true rfl)), if_neg (hne 1 (Nat.le_of_ble_eq_true rfl)), if_neg (hne 2 (Nat.le_of_ble_eq_true rfl)), if_neg (hne 3 (Nat.le_of_ble_eq_true rfl)),
      if_neg (hne 4 (Nat.le_of_ble_eq_true rfl)), if_neg (hne 5 (Nat.le_of_ble_eq_true rfl))]; simp
  | ⟨7, _⟩, hne =>
    rw [if_neg (hne 0 (Nat.le_of_ble_eq_true rfl)), if_neg (hne 1 (Nat.le_of_ble_eq_true rfl)), if_neg (hne 2 (Nat.le_of_ble_eq_true rfl)), if_neg (hne 3 (Nat.le_of_ble_eq_true rfl)),
      if_neg (hne 4 (Nat.le_of_ble_eq_true rfl)), if_neg (hne 5 (Nat.le_of_ble_eq_true rfl)), if_neg (hne 6 (Nat.le_of_ble_eq_true rfl))]; simp

/-! ## The fold that keeps the better pair -/

/-- Of two pairs of a score and a position, the one with the larger score, the earlier position on equal scores. -/
def better (a b : EReal × BitVec 32) : EReal × BitVec 32 :=
  (Scalar.select (IntOp.ori (Ideal.cmp .ogt a.1 b.1) (Ideal.cmp .une a.1 a.1)) a.1 b.1,
    Scalar.select (IntOp.ori (IntOp.ori (Ideal.cmp .ogt a.1 b.1) (Ideal.cmp .une a.1 a.1))
      (IntOp.andi (Ideal.cmp .oeq a.1 b.1) (IntOp.cmpi .slt a.2 b.2))) a.2 b.2)

/-- A strictly larger left score keeps the left pair. -/
theorem better_of_gt {a b : EReal × BitVec 32} (h : b.1 < a.1) : better a b = a := by
  simp [better, Ideal.cmp, h, h.ne', IntOp.ori, IntOp.andi, Scalar.select]

/-- A strictly larger right score keeps the right pair. -/
theorem better_of_lt {a b : EReal × BitVec 32} (h : a.1 < b.1) : better a b = b := by
  simp [better, Ideal.cmp, h.not_gt, h.ne, IntOp.ori, IntOp.andi, Scalar.select]

/-- On equal scores the earlier position is kept. -/
theorem better_of_eq {a b : EReal × BitVec 32} (h : a.1 = b.1) (hs : IntOp.cmpi .slt a.2 b.2 = 1#1) : better a b = a := by
  obtain ⟨a1, a2⟩ := a
  obtain ⟨b1, b2⟩ := b
  obtain rfl : a1 = b1 := h
  have hs' : IntOp.cmpi .slt a2 b2 = 1#1 := hs
  simp [better, Ideal.cmp, IntOp.ori, IntOp.andi, Scalar.select, hs']

/-- On equal scores and positions the pair is the same. -/
theorem better_self (a : EReal × BitVec 32) : better a a = a := by
  simp [better, Ideal.cmp, IntOp.ori, IntOp.andi, Scalar.select]

/-- Two numbers below `2 ^ 31` compare as words as they do as numbers. -/
theorem slt_ofNat {a b : Nat} (h : a < b) (hb : b < 2 ^ 31) : IntOp.cmpi .slt (BitVec.ofNat 32 a) (BitVec.ofNat 32 b) = 1#1 := by
  have ha' : (BitVec.ofNat 32 a).toInt = a := by
    rw [BitVec.toInt_eq_toNat_of_lt] <;> simp [BitVec.toNat_ofNat] <;> omega
  have hb' : (BitVec.ofNat 32 b).toInt = b := by
    rw [BitVec.toInt_eq_toNat_of_lt] <;> simp [BitVec.toNat_ofNat] <;> omega
  simp [IntOp.cmpi, BitVec.slt, ha', hb', h]

/-- A pair holds the first largest of the first `m` scores. -/
def Leads {n : Nat} (s : Fin n → EReal) (m : Nat) (p : EReal × BitVec 32) : Prop :=
  ∃ k : Fin n, k.val < m ∧ p = (s k, BitVec.ofNat 32 k.val) ∧ (∀ j : Fin n, j.val < m → s j ≤ s k) ∧ ∀ j, j < k → s j < s k

/-- Comparing with the next score keeps the pair leading. -/
theorem Leads.step {n : Nat} {s : Fin n → EReal} {m : Nat} {p : EReal × BitVec 32} (h : Leads s m p) (hm : m < n) (hn : n < 2 ^ 31) :
    Leads s (m + 1) (better p (s ⟨m, hm⟩, BitVec.ofNat 32 m)) := by
  obtain ⟨k, hk, rfl, hle, hlt⟩ := h
  have hs := slt_ofNat hk (hm.trans hn)
  generalize hq : s ⟨m, hm⟩ = q
  rcases lt_trichotomy (s k) q with hc | hc | hc
  · rw [better_of_lt (a := (s k, BitVec.ofNat 32 k.val)) (b := (q, BitVec.ofNat 32 m)) hc]
    subst hq
    refine ⟨⟨m, hm⟩, Nat.lt_succ_self m, rfl, fun j hj => ?_, fun j hj => (hle j hj).trans_lt hc⟩
    rcases Nat.lt_succ_iff_lt_or_eq.1 hj with h' | h'
    · exact ((hle j h').trans_lt hc).le
    · exact le_of_eq (congrArg s (Fin.ext h'))
  · rw [better_of_eq (a := (s k, BitVec.ofNat 32 k.val)) (b := (q, BitVec.ofNat 32 m)) hc hs]
    subst hq
    refine ⟨k, hk.trans (Nat.lt_succ_self m), rfl, fun j hj => ?_, hlt⟩
    rcases Nat.lt_succ_iff_lt_or_eq.1 hj with h' | h'
    · exact hle j h'
    · exact (le_of_eq (congrArg s (Fin.ext h' : j = ⟨m, hm⟩))).trans hc.ge
  · rw [better_of_gt (a := (s k, BitVec.ofNat 32 k.val)) (b := (q, BitVec.ofNat 32 m)) hc]
    subst hq
    refine ⟨k, hk.trans (Nat.lt_succ_self m), rfl, fun j hj => ?_, hlt⟩
    rcases Nat.lt_succ_iff_lt_or_eq.1 hj with h' | h'
    · exact hle j h'
    · exact (le_of_eq (congrArg s (Fin.ext h' : j = ⟨m, hm⟩))).trans hc.le

/-- Folding from the least value and position zero over the scores in order leaves the first largest position. -/
theorem fold_better {n : Nat} (hn : n + 1 < 2 ^ 31) (s : Fin (n + 1) → EReal) :
    (((List.finRange (n + 1)).map fun k => (s k, BitVec.ofNat 32 k.val)).foldl better (⊥, 0#32)).2
      = BitVec.ofNat 32 (first s).val := by
  have key : ∀ m, m < n + 1 →
      Leads s (m + 1) ((((List.finRange (n + 1)).map fun k => (s k, BitVec.ofNat 32 k.val)).take (m + 1)).foldl better (⊥, 0#32)) := by
    intro m
    induction m with
    | zero =>
      intro _
      have e : better (⊥, 0#32) (s 0, BitVec.ofNat 32 0) = (s 0, BitVec.ofNat 32 0) := by
        rcases eq_or_lt_of_le (bot_le (a := s 0)) with h | h
        · rw [← h]; exact better_self _
        · exact better_of_lt h
      rw [List.finRange_succ]
      simp only [List.map_cons, List.take_succ_cons, List.take_zero, List.foldl_cons, List.foldl_nil, Fin.val_zero]
      rw [e]
      refine ⟨0, Nat.one_pos, rfl, fun j hj => ?_, fun j hj => absurd hj (Fin.not_lt_zero j)⟩
      have : j = 0 := Fin.ext (by simpa using hj)
      rw [this]
    | succ m ih =>
      intro hm
      have h := (ih (by omega)).step hm hn
      have hl : m + 1 < ((List.finRange (n + 1)).map fun k => (s k, BitVec.ofNat 32 k.val)).length := by simpa using hm
      rw [List.take_succ_eq_append_getElem hl, List.foldl_append]
      simpa using h
  have h := key n (Nat.lt_succ_self n)
  rw [List.take_of_length_le (by simp)] at h
  obtain ⟨k, _, hp, hle, hlt⟩ := h
  rw [hp, show k = first s from eq_first ⟨fun j => hle j j.isLt, hlt⟩]

/-! ## Signs, parts and indicators -/

/-- The word of two. -/
theorem two_word : Ideal.ofBits .f32 0x40000000#32 = 2 := by
  simp [Ideal.ofBits, Ideal.ieee]
  rw [← EReal.coe_mul, show (2 : EReal) = ((2 : ℝ) : EReal) from rfl]; norm_num

/-- The word of one. -/
theorem one_word : Ideal.ofBits .f32 0x3F800000#32 = 1 := by
  simp [Ideal.ofBits, Ideal.ieee]
  rw [← EReal.coe_mul, ← EReal.coe_one]; norm_num

/-- The word of zero. -/
theorem zero_word : Ideal.ofBits .f32 0x00000000#32 = 0 := by
  simp [Ideal.ofBits, Ideal.ieee]

/-- The word of minus infinity. -/
theorem bot_word : Ideal.ofBits .f32 0xFF800000#32 = ⊥ := by
  simp [Ideal.ofBits, Ideal.ieee]

/-- The word of infinity. -/
theorem top_word : Ideal.ofBits .f32 0x7F800000#32 = ⊤ := by
  simp [Ideal.ofBits, Ideal.ieee]

/-- Twice the indicator of a nonnegative number, less one, is its sign. -/
theorem sgn_of_indicator (r : EReal) :
    (((Ideal.cmp .oge r 0).toNat : ℝ) : EReal) * 2 - 1 = sgn r := by
  by_cases h : 0 ≤ r
  · simp only [Ideal.cmp, h, decide_true, sgn, if_true]
    rw [show (BitVec.ofBool true).toNat = 1 from rfl, show (2 : EReal) = ((2 : ℝ) : EReal) from rfl, ← EReal.coe_one,
      ← EReal.coe_mul, ← EReal.coe_sub]
    norm_num
  · simp [Ideal.cmp, h, sgn]

/-- Choosing a number or its opposite by the sign of another multiplies by that sign. -/
theorem sgn_of_choice (r a : EReal) : Scalar.select (Ideal.cmp .oge r 0) a (0 - a) = a * sgn r := by
  unfold Ideal.cmp
  rw [select_ofBool]
  by_cases h : 0 ≤ r <;> simp [h, sgn]

/-- A number joined from itself, what remains of it, and what remains of that. -/
def joined (c : EReal) : EReal := c + (c - c) + (c - c - (c - c))

/-- A finite number joined is the number. -/
theorem joined_finite (c : EReal) (h1 : c ≠ ⊤) (h2 : c ≠ ⊥) : joined c = c := by
  lift c to ℝ using ⟨h1, h2⟩
  unfold joined
  norm_cast
  ring

/-- Infinity joined is minus infinity. -/
theorem joined_top : joined ⊤ = ⊥ := by
  simp [joined, sub_eq_add_neg]

/-- Minus infinity joined is minus infinity. -/
theorem joined_bot : joined ⊥ = ⊥ := by
  simp [joined, sub_eq_add_neg]

/-- The word of the number of entries. -/
theorem width_eq : width = ((128 : ℝ) : EReal) := by
  simp [width, Ideal.ofBits, Ideal.ieee]
  rw [← EReal.coe_mul]; norm_num

/-- A number that lies infinitely far from another is at an infinite distance, whatever the number. -/
theorem far (y c : EReal) (h : c = ⊤ ∨ c = ⊥) : max (y - c) (-(y - c)) = ⊤ := by
  rcases h with rfl | rfl
  · simp [sub_eq_add_neg]
  · induction y <;> simp [sub_eq_add_neg]

/-- A distance is not negative. -/
theorem distance_nonneg (r : EReal) : 0 ≤ max r (-r) := by
  rcases le_total 0 r with h | h
  · exact le_max_of_le_left h
  · exact le_max_of_le_right (EReal.neg_nonneg.2 h)

/-- The mean size of what a code vector with an infinite entry leaves over is infinite. -/
theorem scale_far (y q : Fin 128 → EReal) (e : Fin 128) (h : max (y e - q e) (-(y e - q e)) = ⊤) : scale y q = ⊤ := by
  have hs : (∑ d, max (y d - q d) (-(y d - q d))) = ⊤ :=
    top_le_iff.1 (h ▸ Finset.single_le_sum (f := fun d => max (y d - q d) (-(y d - q d))) (fun d _ => distance_nonneg _)
      (Finset.mem_univ e))
  unfold scale
  rw [hs, width_eq, Ideal.div, if_neg (by norm_num), ← EReal.coe_inv]
  exact EReal.top_mul_coe_of_pos (by norm_num)

/-- Joining the entries of a code vector does not change the mean size of what it leaves over. -/
theorem scale_joined (y q : Fin 128 → EReal) : scale y (fun d => joined (q d)) = scale y q := by
  by_cases h : ∃ e, q e = ⊤ ∨ q e = ⊥
  · obtain ⟨e, he⟩ := h
    have hj : joined (q e) = ⊥ := by
      rcases he with he | he <;> rw [he]
      · exact joined_top
      · exact joined_bot
    rw [scale_far y q e (far _ _ he), scale_far y _ e (far _ _ (Or.inr hj))]
  · push Not at h
    exact congrArg (scale y) (funext fun d => joined_finite _ (h d).1 (h d).2)

/-- Nor does it change the corrected vector: where the entry is infinite the corrected one is minus infinity either way. -/
theorem corr_joined (y q : Fin 128 → EReal) : corr y (fun d => joined (q d)) = corr y q := by
  funext d
  show joined (q d) + scale y (fun d => joined (q d)) * sgn (y d - joined (q d)) = q d + scale y q * sgn (y d - q d)
  rw [scale_joined]
  by_cases ht : q d = ⊤
  · rw [ht, joined_top, scale_far y q d (far _ _ (Or.inl ht))]
    simp [sgn, sub_eq_add_neg]
  · by_cases hb : q d = ⊥
    · rw [hb, joined_bot]
    · rw [joined_finite _ ht hb]

/-- The number of an indicator word. -/
theorem indicator_value (a b : BitVec 32) :
    ((((IntOp.cmpi .eq a b).setWidth 32).toInt : ℝ) : EReal) = if a = b then 1 else 0 := by
  by_cases h : a = b
  · subst h; simp [IntOp.cmpi]
  · rw [if_neg h, show IntOp.cmpi .eq a b = 0#1 from by simp [IntOp.cmpi, beq_eq_false_iff_ne.2 h]]; simp

/-- A sum against an indicator is the one term it picks. -/
theorem sum_pick {n : Nat} (f : Fin n → EReal) (i : Fin n) : (∑ r, (if r = i then (1 : EReal) else 0) * f r) = f i := by
  rw [Finset.sum_eq_single i]
  · simp
  · intro b _ hb; simp [hb]
  · intro h; exact absurd (Finset.mem_univ i) h

/-- The number of the indicator that two positions among sixteen are the same. -/
theorem indicator_position (r k : Fin 16) :
    ((((IntOp.cmpi .eq (BitVec.ofNat 32 r.val) (BitVec.ofNat 32 k.val)).setWidth 32).toInt : ℝ) : EReal) = if r = k then 1 else 0 := by
  rw [indicator_value]
  refine if_congr ⟨fun h => ?_, fun h => by rw [h]⟩ rfl rfl
  have h' := congrArg BitVec.toNat h
  rw [BitVec.toNat_ofNat, BitVec.toNat_ofNat, Nat.mod_eq_of_lt (by omega), Nat.mod_eq_of_lt (by omega)] at h'
  exact Fin.ext h'

/-- A sum over three stretches of sixteen, each against the same indicator, adds the three terms it picks. -/
theorem sum_parts (F : Fin 48 → EReal) (k : Fin 16) (f g h : Fin 16 → EReal)
    (hf : ∀ r : Fin 16, F ⟨r.val, by omega⟩ = (if r = k then 1 else 0) * f r)
    (hg : ∀ r : Fin 16, F ⟨16 + r.val, by omega⟩ = (if r = k then 1 else 0) * g r)
    (hh : ∀ r : Fin 16, F ⟨32 + r.val, by omega⟩ = (if r = k then 1 else 0) * h r) : ∑ x, F x = f k + g k + h k := by
  have e : ∑ x, F x = (∑ r : Fin 16, F ⟨r.val, by omega⟩) + (∑ r : Fin 16, F ⟨16 + r.val, by omega⟩)
      + ∑ r : Fin 16, F ⟨32 + r.val, by omega⟩ := by
    refine (Fin.sum_univ_add (a := 32) (b := 16) F).trans ?_
    exact congrArg (· + ∑ r : Fin 16, F ⟨32 + r.val, by omega⟩)
      (Fin.sum_univ_add (a := 16) (b := 16) fun x : Fin 32 => F ⟨x.val, by omega⟩)
  rw [e, Finset.sum_congr rfl fun r _ => hf r, Finset.sum_congr rfl fun r _ => hg r, Finset.sum_congr rfl fun r _ => hh r,
    sum_pick, sum_pick, sum_pick]

end Cert.Proof.Rows

end
-- ==== Proof.HostValue.lean ====
/-
  What the reference program computes, read at one entry: each of its arrays at a row is that row's function. Its two searches for the
  largest score give the first largest position, its two look-ups then find that code vector inside the list, and the result at an
  entry is the row's result.
-/
module

public import proofs.«01_k».proof.Proof.HostRun
public import proofs.«01_k».proof.Proof.Rows
public import Idealize.ShloMosaic.Lib.Pointwise
public import Idealize.ShloMosaic.Lib.LaneSum
public import Idealize.ShloMosaic.Lib.Routing.Ops
public import Idealize.ShloMosaic.PureOps.Ideal.Laws

@[expose] public section

set_option maxRecDepth 16384

noncomputable section

namespace Cert.Proof.HostValue

open Cert.ReferenceIdeal Cert.ReferenceIdeal.Gen Idealize.ShloMosaic Cert.Proof.Rows Cert.Proof.HostRun
open scoped BigOperators

/-- A row of a two-axis array. -/
abbrev row {m n : Nat} {α : Type} (x : (⟨2, ![m, n]⟩ : Shape).Idx → α) (i : Fin m) : Fin n → α := fun d => x (ix2 i d)

/-- The column of lengths holds each row's length. -/
theorem lengths_at (x : FVec Ideal S16384x128 .f32) (i : Fin 16384) : lengths x (ix2 i (0 : Fin 1)) = len (row x i) := by
  pointwise [lengths, len, row]

/-- A rotated row. -/
theorem rotated_at (x : FVec Ideal S16384x128 .f32) (R : FVec Ideal S128x128 .f32) (i : Fin 16384) (d : Fin 128) :
    rotated x R (ix2 i d) = rot (row x i) (row R) d := by
  unfold rotated
  have h := lengths_at x i
  generalize lengths x = n at h
  pointwise [rot, row, eps]
  rw [h]

/-- A row's score against a base code vector. -/
theorem scores2_at (y : FVec Ideal S16384x128 .f32) (C : FVec Ideal S2x128 .f32) (i : Fin 16384) (k : Fin 2) :
    scores2 y C (ix2 i k) = score (row y i) (row C k) := by
  pointwise [scores2, score, row]

/-- A row's score against a refined code vector. -/
theorem scores8_at (y : FVec Ideal S16384x128 .f32) (C : FVec Ideal S8x128 .f32) (i : Fin 16384) (k : Fin 8) :
    scores8 y C (ix2 i k) = score (row y i) (row C k) := by
  pointwise [scores8, score, row]

/-- The pairs a two-axis array's row hands to a search along the row, in order. -/
theorem fiber_pairs {m n : Nat} {α β : Type} (x : (⟨2, ![m, n]⟩ : Shape).Idx → α) (y : (⟨2, ![m, n]⟩ : Shape).Idx → β)
    (h' : (⟨2, ![m, n]⟩ : Shape).ReducesTo [1] (⟨1, ![m]⟩ : Shape)) (h : (⟨2, ![m, n]⟩ : Shape).Reduces [1] (⟨1, ![m]⟩ : Shape))
    (i : Fin m) :
    Host.argReduceFiber x y h' (ix1 i) = (List.finRange n).map fun c => (x (ix2 i c), y (ix2 i c)) := by
  have e : Host.argReduceFiber x y h' (ix1 i) = (Bits.XluNumerics.fiber h (ix1 i)).map fun a => (x a, y a) := by
    unfold Host.argReduceFiber Bits.XluNumerics.fiber
    rw [List.filter_map, List.map_map, Shape.ReducesTo.drop_eq_drop h' h]
    rfl
  rw [e, Bits.XluNumerics.fiber_row, List.map_map]
  refine List.map_congr_left fun c _ => ?_
  have : Shape.pair (h.row (ix1 i)) c = ix2 i c := by
    funext a
    match a with
    | ⟨0, _⟩ => exact Fin.ext rfl
    | ⟨1, _⟩ => rfl
  simp only [Function.comp_apply, this]
  rfl

/-- The program's way of keeping the better of two pairs. -/
theorem reducer_eq : (reducer_argmax_f32_i32 : Ideal .f32 × BitVec 32 → Ideal .f32 × BitVec 32 → Ideal .f32 × BitVec 32) = better :=
  rfl

/-- The search among two scores finds the first largest. -/
theorem argmax2_at (s : FVec Ideal S16384x2 .f32) (i : Fin 16384) : argmax2 s (ix1 i) = BitVec.ofNat 32 (first (row s i)).val := by
  unfold argmax2
  rw [Ideal.argReduce_eq_reduce2, Host.reduce2_eq_foldl_fiber, fiber_pairs _ _ _ (by decide), reducer_eq,
    ← fold_better (by norm_num) (row s i), ← bot_word]
  rfl

/-- The search among eight scores finds the first largest. -/
theorem argmax8_at (s : FVec Ideal S16384x8 .f32) (i : Fin 16384) : argmax8 s (ix1 i) = BitVec.ofNat 32 (first (row s i)).val := by
  unfold argmax8
  rw [Ideal.argReduce_eq_reduce2, Host.reduce2_eq_foldl_fiber, fiber_pairs _ _ _ (by decide), reducer_eq,
    ← fold_better (by norm_num) (row s i), ← bot_word]
  rfl

/-- A position inside the list of two is its own wrapped position. -/
theorem wrapped2_at (p : IVec S16384 32) (i : Fin 16384) (k : Fin 2) (h : p (ix1 i) = BitVec.ofNat 32 k.val) :
    wrapped 2#32 p (ix2 i (0 : Fin 1)) = BitVec.ofNat 32 k.val := by
  pointwise [wrapped]
  rw [h]
  clear h
  revert k
  decide

/-- A position inside the list of two is in range. -/
theorem inRange2_at (w : IVec S16384x1 32) (i : Fin 16384) (d : Fin 128) (k : Fin 2) (h : w (ix2 i (0 : Fin 1)) = BitVec.ofNat 32 k.val) :
    inRange 1#32 w (ix2 i d) = 1#1 := by
  pointwise [inRange]
  rw [show (Finset.univ : Finset (Fin 1)) = {0} from rfl, Finset.fold_singleton, h]
  clear h
  revert k
  decide

/-- The base code vector at a row's position. -/
theorem take2_at (C : FVec Ideal S2x128 .f32) (p : IVec S16384 32) (i : Fin 16384) (d : Fin 128) (k : Fin 2)
    (h : p (ix1 i) = BitVec.ofNat 32 k.val) : take2 C p (ix2 i d) = C (ix2 k d) := by
  have hw := wrapped2_at p i k h
  unfold take2
  generalize wrapped 2#32 p = w at hw
  have hr := inRange2_at w i d k hw
  have hg : Host.gather gather_S2x128_S16384x1_S16384x128_1_0_n_n_0_1_1128 C w (ix2 i d) = C (ix2 k d) :=
    Routing.gather_row _ rfl rfl rfl rfl rfl C w i d k hw (by norm_num)
  rw [ValueIdx.select_apply, hr, hg, ValueIdx.select_one]

/-- A position inside the list of eight is its own wrapped position. -/
theorem wrapped8_at (p : IVec S16384 32) (i : Fin 16384) (k : Fin 8) (h : p (ix1 i) = BitVec.ofNat 32 k.val) :
    wrapped 8#32 p (ix2 i (0 : Fin 1)) = BitVec.ofNat 32 k.val := by
  pointwise [wrapped]
  rw [h]
  clear h
  revert k
  decide

/-- A position inside the list of eight is in range. -/
theorem inRange8_at (w : IVec S16384x1 32) (i : Fin 16384) (d : Fin 128) (k : Fin 8) (h : w (ix2 i (0 : Fin 1)) = BitVec.ofNat 32 k.val) :
    inRange 7#32 w (ix2 i d) = 1#1 := by
  pointwise [inRange]
  rw [show (Finset.univ : Finset (Fin 1)) = {0} from rfl, Finset.fold_singleton, h]
  clear h
  revert k
  decide

/-- The refined code vector at a row's position. -/
theorem take8_at (C : FVec Ideal S8x128 .f32) (p : IVec S16384 32) (i : Fin 16384) (d : Fin 128) (k : Fin 8)
    (h : p (ix1 i) = BitVec.ofNat 32 k.val) : take8 C p (ix2 i d) = C (ix2 k d) := by
  have hw := wrapped8_at p i k h
  unfold take8
  generalize wrapped 8#32 p = w at hw
  have hr := inRange8_at w i d k hw
  have hg : Host.gather gather_S8x128_S16384x1_S16384x128_1_0_n_n_0_1_1128 C w (ix2 i d) = C (ix2 k d) :=
    Routing.gather_row _ rfl rfl rfl rfl rfl C w i d k hw (by norm_num)
  rw [ValueIdx.select_apply, hr, hg, ValueIdx.select_one]

/-- The signs of an array's entries. -/
theorem signs_at (r : FVec Ideal S16384x128 .f32) (i : Fin 16384) (d : Fin 128) : signs r (ix2 i d) = sgn (r (ix2 i d)) := by
  pointwise [signs, spread]
  rw [two_word]
  exact sgn_of_indicator (r (ix2 i d))

/-- The mean absolute entry of a row. -/
theorem meanAbs_at (y q : FVec Ideal S16384x128 .f32) (i : Fin 16384) (d : Fin 128) :
    meanAbs (subf y q) (ix2 i d) = scale (row y i) (row q i) := by
  pointwise [meanAbs, scale, row, width]
  rfl

/-- A corrected code vector. -/
theorem corrected_at (y q : FVec Ideal S16384x128 .f32) (i : Fin 16384) (d : Fin 128) :
    corrected y q (ix2 i d) = corr (row y i) (row q i) d := by
  have h1 := meanAbs_at y q i d
  have h2 := signs_at (subf y q) i d
  unfold corrected
  generalize meanAbs (subf y q) = a at h1
  generalize signs (subf y q) = b at h2
  pointwise [corr]
  rw [h1, h2]
  rfl

/-- A row rotated back and scaled. -/
theorem restored_at (x z : FVec Ideal S16384x128 .f32) (R : FVec Ideal S128x128 .f32) (i : Fin 16384) (d : Fin 128) :
    restored x z R (ix2 i d) = back (len (row x i)) (row z i) (row R) d := by
  have h := lengths_at x i
  unfold restored
  generalize lengths x = n at h
  pointwise [back, row]
  rw [h]

/-- The choice by the mask. -/
theorem choose_at (mask : IVec S16384 1) (p q : FVec Ideal S16384x128 .f32) (i : Fin 16384) (d : Fin 128) :
    choose mask p q (ix2 i d) = if mask (ix1 i) = 1#1 then p (ix2 i d) else q (ix2 i d) := by
  pointwise [choose]
  rcases BitVec.eq_zero_or_eq_one (mask (ix1 i)) with h | h
  · rw [h]; rfl
  · rw [h]; rfl

/-- The reference's result at an entry is the row's result there. -/
theorem result_at (x : FVec Ideal S16384x128 .f32) (mask : IVec S16384 1) (R : FVec Ideal S128x128 .f32) (C2 : FVec Ideal S2x128 .f32)
    (C8 : FVec Ideal S8x128 .f32) (i : Fin 16384) (d : Fin 128) :
    result x mask R C2 C8 (ix2 i d) = out (row x i) (mask (ix1 i) = 1#1) (row R) (row C2) (row C8) d := by
  have hrot : row (rotated x R) i = rot (row x i) (row R) := funext fun d => rotated_at x R i d
  have h2 : row (scores2 (rotated x R) C2) i = fun k => score (rot (row x i) (row R)) (row C2 k) :=
    funext fun k => by rw [← hrot]; exact scores2_at _ C2 i k
  have h8 : row (scores8 (rotated x R) C8) i = fun k => score (rot (row x i) (row R)) (row C8 k) :=
    funext fun k => by rw [← hrot]; exact scores8_at _ C8 i k
  have t2 : row (take2 C2 (argmax2 (scores2 (rotated x R) C2))) i
      = row C2 (first fun k => score (rot (row x i) (row R)) (row C2 k)) := by
    rw [← h2]; exact funext fun d => take2_at C2 _ i d _ (argmax2_at _ i)
  have t8 : row (take8 C8 (argmax8 (scores8 (rotated x R) C8))) i
      = row C8 (first fun k => score (rot (row x i) (row R)) (row C8 k)) := by
    rw [← h8]; exact funext fun d => take8_at C8 _ i d _ (argmax8_at _ i)
  unfold result out
  rw [restored_at]
  refine congrArg (fun z => back (len (row x i)) z (row R) d) (funext fun e => ?_)
  refine (choose_at mask _ _ i e).trans ?_
  rw [corrected_at, corrected_at, hrot, t2, t8]
  split <;> rfl

end Cert.Proof.HostValue

end
-- ==== Proof.Block.lean ====
/-
  What the kernel computes on one block of 4096 rows, read at one entry: the stages of the body (lengths, rotated rows, the scores of
  the sixteen stacked code vectors, the position word, the code vector read back through an indicator product, the corrected row, the
  row rotated back) at a row are that row's functions. The code vector is read back joined from three parts, which corrects to
  the same row as the vector itself.
-/
module

public import proofs.«01_k».proof.Proof.Gen.KernelIdeal.Frame
public import proofs.«01_k».proof.Proof.Rows
public import Idealize.ShloMosaic.Lib.Pointwise

@[expose] public section

set_option maxRecDepth 16384

noncomputable section

namespace Cert.Proof.Block

open Cert.KernelIdeal Cert.KernelIdeal.Gen Idealize.ShloMosaic Cert.Proof.Rows
open scoped BigOperators

/-- A row of a two-axis array. -/
abbrev row {m n : Nat} {α : Type} (x : (⟨2, ![m, n]⟩ : Shape).Idx → α) (i : Fin m) : Fin n → α := fun d => x (ix2 i d)

/-! ## Lengths, rotated rows and scores -/

/-- The column of lengths holds each row's length. -/
theorem lengths_at (x : FVec Ideal S4096x128 .f32) (i : Fin 4096) : k0_pay2 (F := Ideal) x (ix2 i (0 : Fin 1)) = len (row x i) := by
  pointwise [k0_pay2, len, row]

/-- A rotated row. -/
theorem rotated_at (x : FVec Ideal S4096x128 .f32) (R : FVec Ideal S128x128 .f32) (i : Fin 4096) (d : Fin 128) :
    k0_pay3 (F := Ideal) x R (ix2 i d) = rot (row x i) (row R) d := by
  have h := lengths_at x i
  unfold k0_pay3
  generalize k0_pay2 (F := Ideal) x = n at h
  pointwise [rot, row, eps]
  rw [h]

/-- The first two of the sixteen stacked code vectors are the base ones. -/
theorem codes_base (C2 : FVec Ideal S2x128 .f32) (C8 : FVec Ideal S8x128 .f32) (k : Fin 2) (d : Fin 128) :
    k0_pay4 (F := Ideal) C2 C8 (ix2 (⟨k.val, by omega⟩ : Fin 16) d) = C2 (ix2 k d) := by
  pointwise [k0_pay4]

/-- The next eight are the refined ones. -/
theorem codes_refined (C2 : FVec Ideal S2x128 .f32) (C8 : FVec Ideal S8x128 .f32) (k : Fin 8) (d : Fin 128) :
    k0_pay4 (F := Ideal) C2 C8 (ix2 (⟨2 + k.val, by omega⟩ : Fin 16) d) = C8 (ix2 k d) := by
  pointwise [k0_pay4]

/-- The score of a stacked code vector against a row. -/
theorem scores_at (x : FVec Ideal S4096x128 .f32) (R : FVec Ideal S128x128 .f32) (C2 : FVec Ideal S2x128 .f32)
    (C8 : FVec Ideal S8x128 .f32) (k : Fin 16) (i : Fin 4096) :
    k0_pay5 (F := Ideal) x R C2 C8 (ix2 k i) = score (rot (row x i) (row R)) (row (k0_pay4 (F := Ideal) C2 C8) k) := by
  have h : row (k0_pay3 (F := Ideal) x R) i = rot (row x i) (row R) := funext fun d => rotated_at x R i d
  rw [← h]
  unfold k0_pay5
  generalize k0_pay3 (F := Ideal) x R = y
  generalize k0_pay4 (F := Ideal) C2 C8 = C
  pointwise [score, row]
  exact Finset.sum_congr rfl fun e _ => mul_comm _ _

/-! ## The position word -/

/-- The word of each row's code vector among the sixteen, from the sixteen scores and the mask words. -/
def word (s : FVec Ideal S16x4096 .f32) (v19 : IVec S1x4096 32) (v34 : FVec Ideal S1x4096 .f32) (v39 : IVec S1x4096 32)
    (v41 : IVec S1x4096 1) (v42 : IVec S1x4096 32) (v64 : IVec S1x4096 32) : IVec S1x4096 32 :=
  select (cmpi .ne (shapeCast S1x4096 v64 shapeCasts_S1x4096_S1x4096) (constantI S1x4096 32 0#32))
    (select (cmpf .oeq (extractStridedSlice S1x4096 ![2, 0] s slices_S16x4096_o2_0_S1x4096) v34) (broadcast S1x4096 2#32)
      (select (cmpf .oeq (extractStridedSlice S1x4096 ![3, 0] s slices_S16x4096_o3_0_S1x4096) v34) (broadcast S1x4096 3#32)
        (select (cmpf .oeq (extractStridedSlice S1x4096 ![4, 0] s slices_S16x4096_o4_0_S1x4096) v34) (broadcast S1x4096 4#32)
          (select (cmpf .oeq (extractStridedSlice S1x4096 ![5, 0] s slices_S16x4096_o5_0_S1x4096) v34) (broadcast S1x4096 5#32)
            (select (cmpf .oeq (extractStridedSlice S1x4096 ![6, 0] s slices_S16x4096_o6_0_S1x4096) v34) (broadcast S1x4096 6#32)
              (select v41 v42 v39)))))) v19

/-- The code vectors read back through the indicators of the words, in three parts. -/
def readBack (C : FVec Ideal S16x128 .f32) (u : IVec S1x4096 32) : FVec Ideal S4096x128 .f32 :=
  have p : FVec Ideal S16x4096 .f32 := sitofp .f32 (extui 32 (cmpi .eq (iota .tc S16x4096 32 [0] iota_S16x4096_d0_w32)
    (broadcastTo S16x4096 u broadcasts_S1x4096_S16x4096)) natLt_1_32)
  have hi : FVec Ideal S16x128 .f32 := extf .f32 (truncf .bf16 C bitsLt_bf16_f32) bitsLt_bf16_f32
  have mid : FVec Ideal S16x128 .f32 := extf .f32 (truncf .bf16 (subf C hi) bitsLt_bf16_f32) bitsLt_bf16_f32
  matmul dot_S48x4096_S48x128_S4096x128_0_0_1_1_n_n none
    (concatenate S48x4096 0 [⟨S16x4096, p⟩, ⟨S16x4096, p⟩, ⟨S16x4096, p⟩] concatenates_S16x4096_S16x4096_S16x4096_S48x4096_d0)
    (concatenate S48x128 0 [⟨S16x128, hi⟩, ⟨S16x128, mid⟩, ⟨S16x128, subf (subf C hi) mid⟩] concatenates_S16x128_S16x128_S16x128_S48x128_d0)
    (constant S4096x128 .f32 0x00000000#32)

/-- The body's stage is the one followed by the other. -/
theorem stage_eq (C : FVec Ideal S16x128 .f32) (s : FVec Ideal S16x4096 .f32) (v19 : IVec S1x4096 32) (v34 : FVec Ideal S1x4096 .f32)
    (v39 : IVec S1x4096 32) (v41 : IVec S1x4096 1) (v42 : IVec S1x4096 32) (v64 : IVec S1x4096 32) :
    k0_pay11 (F := Ideal) C s v19 v34 v39 v41 v42 v64 = readBack C (word s v19 v34 v39 v41 v42 v64) := rfl

/-- The refined scores of a row. -/
abbrev refined (s : FVec Ideal S16x4096 .f32) (i : Fin 4096) (k : Fin 8) : EReal := s (ix2 (⟨2 + k.val, by omega⟩ : Fin 16) i)

/-- The base scores of a row. -/
abbrev base (s : FVec Ideal S16x4096 .f32) (i : Fin 4096) (k : Fin 2) : EReal := s (ix2 (⟨k.val, by omega⟩ : Fin 16) i)

/-- The largest of the refined scores of each row. -/
theorem largest_at (x : FVec Ideal S4096x128 .f32) (R : FVec Ideal S128x128 .f32) (C2 : FVec Ideal S2x128 .f32)
    (C8 : FVec Ideal S8x128 .f32) (i : Fin 4096) :
    k0_pay7 (F := Ideal) x R C2 C8 (ix2 (0 : Fin 1) i) = max8 (refined (k0_pay5 (F := Ideal) x R C2 C8) i) := by
  unfold k0_pay7
  generalize k0_pay5 (F := Ideal) x R C2 C8 = s
  pointwise [max8, refined]

/-- The word where the mask word is zero: the first largest of the base scores. -/
theorem word_base (x : FVec Ideal S4096x128 .f32) (R : FVec Ideal S128x128 .f32) (C2 : FVec Ideal S2x128 .f32)
    (C8 : FVec Ideal S8x128 .f32) (w : IVec S1x4096 32) (i : Fin 4096) (h : w (ix2 (0 : Fin 1) i) = 0#32) :
    word (k0_pay5 (F := Ideal) x R C2 C8) (k0_pay6 (F := Ideal) x R C2 C8) (k0_pay7 (F := Ideal) x R C2 C8) (k0_pay8 (F := Ideal) x R C2 C8) (k0_pay9 (F := Ideal) x R C2 C8) k0_pay10 w (ix2 (0 : Fin 1) i)
      = BitVec.ofNat 32 (first (base (k0_pay5 (F := Ideal) x R C2 C8) i)).val := by
  have hm := largest_at x R C2 C8 i
  unfold k0_pay6 k0_pay8 k0_pay9 k0_pay10
  generalize k0_pay7 (F := Ideal) x R C2 C8 = v at hm ⊢
  generalize k0_pay5 (F := Ideal) x R C2 C8 = s at hm ⊢
  rw [← word2]
  pointwise [word, base]
  rw [h]
  rfl

/-- The word where the mask word is one: two more than the first largest of the refined scores. -/
theorem word_refined (x : FVec Ideal S4096x128 .f32) (R : FVec Ideal S128x128 .f32) (C2 : FVec Ideal S2x128 .f32)
    (C8 : FVec Ideal S8x128 .f32) (w : IVec S1x4096 32) (i : Fin 4096) (h : w (ix2 (0 : Fin 1) i) = 1#32) :
    word (k0_pay5 (F := Ideal) x R C2 C8) (k0_pay6 (F := Ideal) x R C2 C8) (k0_pay7 (F := Ideal) x R C2 C8) (k0_pay8 (F := Ideal) x R C2 C8) (k0_pay9 (F := Ideal) x R C2 C8) k0_pay10 w (ix2 (0 : Fin 1) i)
      = BitVec.ofNat 32 (2 + (first (refined (k0_pay5 (F := Ideal) x R C2 C8) i)).val) := by
  have hm := largest_at x R C2 C8 i
  unfold k0_pay6 k0_pay8 k0_pay9 k0_pay10
  generalize k0_pay7 (F := Ideal) x R C2 C8 = v at hm ⊢
  generalize k0_pay5 (F := Ideal) x R C2 C8 = s at hm ⊢
  rw [← word8]
  rw [← hm]
  pointwise [word, refined]
  rw [h]
  rfl

/-- The code vector read back is the one that the word names, joined from its parts. -/
theorem readBack_at (C : FVec Ideal S16x128 .f32) (u : IVec S1x4096 32) (i : Fin 4096) (d : Fin 128) (k : Fin 16)
    (hu : u (ix2 (0 : Fin 1) i) = BitVec.ofNat 32 k.val) :
    readBack C u (ix2 i d) = joined (C (ix2 k d)) := by
  pointwise [readBack]
  rw [hu]
  refine sum_parts _ k (fun r => C (ix2 r d)) (fun r => C (ix2 r d) - C (ix2 r d))
    (fun r => C (ix2 r d) - C (ix2 r d) - (C (ix2 r d) - C (ix2 r d))) (fun r => ?_) (fun r => ?_) (fun r => ?_)
  · dsimp only
    simp only [r.isLt, ↓reduceDIte]
    exact congrArg (· * C (ix2 r d)) (indicator_position r k)
  · dsimp only
    have e : 16 + r.val - 16 = r.val := by omega
    have n : ¬ 16 + r.val < 16 := by omega
    simp only [n, e, r.isLt, ↓reduceDIte]
    exact congrArg (· * (C (ix2 r d) - C (ix2 r d))) (indicator_position r k)
  · dsimp only
    have e : 32 + r.val - 16 - 16 = r.val := by omega
    have n1 : ¬ 32 + r.val < 16 := by omega
    have n2 : ¬ 32 + r.val - 16 < 16 := by omega
    simp only [n1, n2, e, ↓reduceDIte]
    exact congrArg (· * (C (ix2 r d) - C (ix2 r d) - (C (ix2 r d) - C (ix2 r d)))) (indicator_position r k)

/-! ## The correction and the way back -/

/-- The mean absolute entry of what the code vector leaves over of a row. -/
theorem scale_at (y : FVec Ideal S4096x128 .f32) (C : FVec Ideal S16x128 .f32) (s : FVec Ideal S16x4096 .f32) (v19 : IVec S1x4096 32)
    (v34 : FVec Ideal S1x4096 .f32) (v39 : IVec S1x4096 32) (v41 : IVec S1x4096 1) (v42 : IVec S1x4096 32) (v64 : IVec S1x4096 32)
    (i : Fin 4096) :
    k0_pay13 (F := Ideal) y C s v19 v34 v39 v41 v42 v64 (ix2 i (0 : Fin 1)) = scale (row y i) (row (k0_pay11 (F := Ideal) C s v19 v34 v39 v41 v42 v64) i) := by
  unfold k0_pay13 k0_pay12
  generalize k0_pay11 (F := Ideal) C s v19 v34 v39 v41 v42 v64 = q
  pointwise [scale, row, width]
  rfl

/-- Whether what the code vector leaves over is nonnegative at an entry. -/
theorem sign_at (y : FVec Ideal S4096x128 .f32) (C : FVec Ideal S16x128 .f32) (s : FVec Ideal S16x4096 .f32) (v19 : IVec S1x4096 32)
    (v34 : FVec Ideal S1x4096 .f32) (v39 : IVec S1x4096 32) (v41 : IVec S1x4096 1) (v42 : IVec S1x4096 32) (v64 : IVec S1x4096 32)
    (i : Fin 4096) (d : Fin 128) :
    k0_pay14 y C s v19 v34 v39 v41 v42 v64 (ix2 i d)
      = Ideal.cmp .oge (y (ix2 i d) - k0_pay11 (F := Ideal) C s v19 v34 v39 v41 v42 v64 (ix2 i d)) 0 := by
  unfold k0_pay14 k0_pay12
  generalize k0_pay11 (F := Ideal) C s v19 v34 v39 v41 v42 v64 = q
  pointwise

/-- The corrected row rotated back and scaled. -/
theorem restored_at (n : FVec Ideal S4096x1 .f32) (R : FVec Ideal S128x128 .f32) (q : FVec Ideal S4096x128 .f32) (a : FVec Ideal S4096x1 .f32)
    (b : IVec S4096x128 1) (y : Fin 128 → EReal) (i : Fin 4096) (d : Fin 128) (ha : a (ix2 i (0 : Fin 1)) = scale y (row q i))
    (hb : ∀ e, b (ix2 i e) = Ideal.cmp .oge (y e - q (ix2 i e)) 0) :
    k0_pay1 (F := Ideal) n R q a b (ix2 i d) = back (n (ix2 i (0 : Fin 1))) (corr y (row q i)) (row R) d := by
  pointwise [k0_pay1, back, corr, row]
  refine congrArg (· * n (ix2 i (0 : Fin 1))) (Finset.sum_congr rfl fun e _ => ?_)
  rw [hb, ha, sgn_of_choice]

/-! ## The block -/

/-- The code vector read back for a row whose mask word is zero: the best base one, joined from its parts. -/
theorem chosen_base (x : FVec Ideal S4096x128 .f32) (R : FVec Ideal S128x128 .f32) (C2 : FVec Ideal S2x128 .f32)
    (C8 : FVec Ideal S8x128 .f32) (w : IVec S1x4096 32) (i : Fin 4096) (h : w (ix2 (0 : Fin 1) i) = 0#32) (e : Fin 128) :
    k0_pay11 (F := Ideal) (k0_pay4 (F := Ideal) C2 C8) (k0_pay5 (F := Ideal) x R C2 C8) (k0_pay6 (F := Ideal) x R C2 C8) (k0_pay7 (F := Ideal) x R C2 C8) (k0_pay8 (F := Ideal) x R C2 C8)
        (k0_pay9 (F := Ideal) x R C2 C8) k0_pay10 w (ix2 i e)
      = joined (row C2 (first fun k => score (rot (row x i) (row R)) (row C2 k)) e) := by
  have hs : base (k0_pay5 (F := Ideal) x R C2 C8) i = fun k => score (rot (row x i) (row R)) (row C2 k) := funext fun k =>
    (scores_at x R C2 C8 _ i).trans (congrArg (score _) (funext fun d => codes_base C2 C8 k d))
  rw [stage_eq]
  refine (readBack_at _ _ i e (⟨(first (base (k0_pay5 (F := Ideal) x R C2 C8) i)).val, by omega⟩ : Fin 16)
    (word_base x R C2 C8 w i h)).trans ?_
  rw [codes_base, hs]

/-- The code vector read back for a row whose mask word is one: the best refined one, joined from its parts. -/
theorem chosen_refined (x : FVec Ideal S4096x128 .f32) (R : FVec Ideal S128x128 .f32) (C2 : FVec Ideal S2x128 .f32)
    (C8 : FVec Ideal S8x128 .f32) (w : IVec S1x4096 32) (i : Fin 4096) (h : w (ix2 (0 : Fin 1) i) = 1#32) (e : Fin 128) :
    k0_pay11 (F := Ideal) (k0_pay4 (F := Ideal) C2 C8) (k0_pay5 (F := Ideal) x R C2 C8) (k0_pay6 (F := Ideal) x R C2 C8) (k0_pay7 (F := Ideal) x R C2 C8) (k0_pay8 (F := Ideal) x R C2 C8)
        (k0_pay9 (F := Ideal) x R C2 C8) k0_pay10 w (ix2 i e)
      = joined (row C8 (first fun k => score (rot (row x i) (row R)) (row C8 k)) e) := by
  have hs : refined (k0_pay5 (F := Ideal) x R C2 C8) i = fun k => score (rot (row x i) (row R)) (row C8 k) := funext fun k =>
    (scores_at x R C2 C8 _ i).trans (congrArg (score _) (funext fun d => codes_refined C2 C8 k d))
  rw [stage_eq]
  refine (readBack_at _ _ i e (⟨2 + (first (refined (k0_pay5 (F := Ideal) x R C2 C8) i)).val, by omega⟩ : Fin 16)
    (word_refined x R C2 C8 w i h)).trans ?_
  rw [codes_refined, hs]

/-- The whole body at an entry, given the code vector it read back for that row. -/
theorem body_at (x : FVec Ideal S4096x128 .f32) (w : IVec S1x4096 32) (R : FVec Ideal S128x128 .f32) (C2 : FVec Ideal S2x128 .f32)
    (C8 : FVec Ideal S8x128 .f32) (i : Fin 4096) (d : Fin 128) (q : Fin 128 → EReal)
    (hq : ∀ e, k0_pay11 (F := Ideal) (k0_pay4 (F := Ideal) C2 C8) (k0_pay5 (F := Ideal) x R C2 C8) (k0_pay6 (F := Ideal) x R C2 C8) (k0_pay7 (F := Ideal) x R C2 C8) (k0_pay8 (F := Ideal) x R C2 C8)
        (k0_pay9 (F := Ideal) x R C2 C8) k0_pay10 w (ix2 i e) = joined (q e)) :
    k0_pay1 (F := Ideal) (k0_pay2 (F := Ideal) x) R
        (k0_pay11 (F := Ideal) (k0_pay4 (F := Ideal) C2 C8) (k0_pay5 (F := Ideal) x R C2 C8) (k0_pay6 (F := Ideal) x R C2 C8) (k0_pay7 (F := Ideal) x R C2 C8) (k0_pay8 (F := Ideal) x R C2 C8)
          (k0_pay9 (F := Ideal) x R C2 C8) k0_pay10 w)
        (k0_pay13 (F := Ideal) (k0_pay3 (F := Ideal) x R) (k0_pay4 (F := Ideal) C2 C8) (k0_pay5 (F := Ideal) x R C2 C8) (k0_pay6 (F := Ideal) x R C2 C8) (k0_pay7 (F := Ideal) x R C2 C8) (k0_pay8 (F := Ideal) x R C2 C8)
          (k0_pay9 (F := Ideal) x R C2 C8) k0_pay10 w)
        (k0_pay14 (F := Ideal) (k0_pay3 (F := Ideal) x R) (k0_pay4 (F := Ideal) C2 C8) (k0_pay5 (F := Ideal) x R C2 C8) (k0_pay6 (F := Ideal) x R C2 C8) (k0_pay7 (F := Ideal) x R C2 C8) (k0_pay8 (F := Ideal) x R C2 C8)
          (k0_pay9 (F := Ideal) x R C2 C8) k0_pay10 w) (ix2 i d)
      = back (len (row x i)) (corr (rot (row x i) (row R)) q) (row R) d := by
  have hy : row (k0_pay3 (F := Ideal) x R) i = rot (row x i) (row R) := funext fun e => rotated_at x R i e
  refine (restored_at _ R _ _ _ (row (k0_pay3 (F := Ideal) x R) i) i d (scale_at _ _ _ _ _ _ _ _ _ i)
    (fun e => sign_at _ _ _ _ _ _ _ _ _ i e)).trans ?_
  rw [lengths_at, hy, show row _ i = fun e => joined (q e) from funext hq, corr_joined]

/-- What the kernel writes at an entry of a block is the row's result there, the mask read from its word. -/
theorem block_at (x : FVec Ideal S4096x128 .f32) (w : IVec S1x4096 32) (R : FVec Ideal S128x128 .f32) (C2 : FVec Ideal S2x128 .f32)
    (C8 : FVec Ideal S8x128 .f32) (i : Fin 4096) (d : Fin 128) (b : BitVec 1) (h : w (ix2 (0 : Fin 1) i) = b.setWidth 32) :
    out0_5 (F := Ideal) x w R C2 C8 (ix2 i d) = out (row x i) (b = 1#1) (row R) (row C2) (row C8) d := by
  have hz : (![0, 0] : Fin 2 → Nat) = fun _ => 0 := funext fun a => by match a with | ⟨0, _⟩ | ⟨1, _⟩ => rfl
  unfold out0_5 k0_pay22 k0_pay21 k0_pay20 k0_pay19 k0_pay18 k0_pay17 k0_pay16 k0_pay15
  rw [View.canon_unit_zero hz]
  rw [View.ld_unit_zero hz, View.ld_unit_zero hz, View.ld_unit_zero hz, View.ld_unit_zero hz, View.ld_unit_zero hz]
  unfold out
  rcases BitVec.eq_zero_or_eq_one b with rfl | rfl
  · rw [if_neg (by decide)]
    exact body_at x w R C2 C8 i d _ (chosen_base x R C2 C8 w i h)
  · rw [if_pos rfl]
    exact body_at x w R C2 C8 i d _ (chosen_refined x R C2 C8 w i h)

end Cert.Proof.Block

end
-- ==== Proof.Array.lean ====
/-
  What the kernel's result array holds after the run: the four blocks of 4096 rows tile it, each input block is the matching rows of its
  argument (the three small arguments whole), and the mask's words are the mask read as a row of 32-bit words. So every entry of the
  array is its row's result.
-/
module

public import proofs.«01_k».proof.Proof.Gen.KernelIdeal.Value
public import proofs.«01_k».proof.Proof.Block

@[expose] public section

set_option maxRecDepth 16384

noncomputable section

namespace Cert.Proof.Array

open Cert.KernelIdeal Cert.KernelIdeal.Gen Idealize.ShloMosaic Idealize.ShloMosaic.TcCoe Idealize.SL.Sem Cert.Proof.Rows Cert.Proof.Block
open Idealize.ShloMosaic.Pipeline (Dat)

/-- The result array as a function of the arguments: every entry is its row's result. -/
def value (x : FVec Ideal S16384x128 .f32) (mask : IVec S16384 1) (R : FVec Ideal S128x128 .f32) (C2 : FVec Ideal S2x128 .f32)
    (C8 : FVec Ideal S8x128 .f32) : FVec Ideal S16384x128 .f32 :=
  fun j => out (row x (j 0 : Fin 16384)) (mask (ix1 (j 0 : Fin 16384)) = 1#1) (row R) (row C2) (row C8) (j 1 : Fin 128)

/-- The value at a row and a column. -/
theorem value_at (x : FVec Ideal S16384x128 .f32) (mask : IVec S16384 1) (R : FVec Ideal S128x128 .f32) (C2 : FVec Ideal S2x128 .f32)
    (C8 : FVec Ideal S8x128 .f32) (i : Fin 16384) (d : Fin 128) :
    value x mask R C2 C8 (ix2 i d) = out (row x i) (mask (ix1 i) = 1#1) (row R) (row C2) (row C8) d := rfl

variable (m : (ℓ : Loc nD τ sig) → Buf (Elt Ideal) ℓ) (ρ : Dev nD → PrngReg)

/-! ## Where a block's entries lie -/

/-- The row of the arrays at which row `i` of point `t`'s block lies. -/
def place (t : Fin cfg0.N) (i : Fin 4096) : Fin 16384 :=
  ⟨4096 * t.val + i.val, by have h := t.isLt; have hN : cfg0.N = 4 := N_0; have := i.isLt; omega⟩

/-- The block indices of the three moving windows. -/
theorem moving : ∀ t : Fin cfg0.N, (win0_0.index t 0 = t.val ∧ win0_0.index t 1 = 0) ∧ (win0_1.index t 0 = 0 ∧ win0_1.index t 1 = t.val)
    ∧ win0_5.index t 0 = t.val ∧ win0_5.index t 1 = 0 :=
  (by decide +kernel : ∀ t : Fin grid0.N, (win0_0.index t 0 = t.val ∧ win0_0.index t 1 = 0)
    ∧ (win0_1.index t 0 = 0 ∧ win0_1.index t 1 = t.val) ∧ win0_5.index t 0 = t.val ∧ win0_5.index t 1 = 0)

/-- The block indices of the three windows that stay. -/
theorem still : ∀ t : Fin cfg0.N, (win0_2.index t 0 = 0 ∧ win0_2.index t 1 = 0) ∧ (win0_3.index t 0 = 0 ∧ win0_3.index t 1 = 0)
    ∧ win0_4.index t 0 = 0 ∧ win0_4.index t 1 = 0 :=
  (by decide +kernel : ∀ t : Fin grid0.N, (win0_2.index t 0 = 0 ∧ win0_2.index t 1 = 0)
    ∧ (win0_3.index t 0 = 0 ∧ win0_3.index t 1 = 0) ∧ win0_4.index t 0 = 0 ∧ win0_4.index t 1 = 0)

/-- An entry of the block of rows. -/
theorem emb0 (t : Fin cfg0.N) (i : Fin 4096) (d : Fin 128) : ((cfg0.win 0).blk t).view.emb (ix2 i d) = ix2 (place t i) d := by
  obtain ⟨⟨e0, e1⟩, _⟩ := moving t
  funext a; apply Fin.ext
  match a with
  | ⟨0, _⟩ => show win0_0.index t 0 * 4096 + 1 * i.val = 4096 * t.val + i.val; rw [e0]; omega
  | ⟨1, _⟩ => show win0_0.index t 1 * 128 + 1 * d.val = d.val; rw [e1]; omega

/-- An entry of the block of mask words. -/
theorem emb1 (t : Fin cfg0.N) (i : Fin 4096) : ((cfg0.win 1).blk t).view.emb (ix2 (0 : Fin 1) i) = ix2 (0 : Fin 1) (place t i) := by
  obtain ⟨_, ⟨e0, e1⟩, _⟩ := moving t
  funext a; apply Fin.ext
  match a with
  | ⟨0, _⟩ => show win0_1.index t 0 * 1 + 1 * 0 = 0; rw [e0]
  | ⟨1, _⟩ => show win0_1.index t 1 * 4096 + 1 * i.val = 4096 * t.val + i.val; rw [e1]; omega

/-- An entry of the block of results. -/
theorem emb5 (t : Fin cfg0.N) (i : Fin 4096) (d : Fin 128) : ((cfg0.win 5).blk t).view.emb (ix2 i d) = ix2 (place t i) d := by
  obtain ⟨_, _, e0, e1⟩ := moving t
  funext a; apply Fin.ext
  match a with
  | ⟨0, _⟩ => show win0_5.index t 0 * 4096 + 1 * i.val = 4096 * t.val + i.val; rw [e0]; omega
  | ⟨1, _⟩ => show win0_5.index t 1 * 128 + 1 * d.val = d.val; rw [e1]; omega

/-- The rotation's block is the rotation. -/
theorem emb2 (t : Fin cfg0.N) (k d : Fin 128) : ((cfg0.win 2).blk t).view.emb (ix2 k d) = ix2 k d := by
  obtain ⟨⟨e0, e1⟩, _⟩ := still t
  funext a; apply Fin.ext
  match a with
  | ⟨0, _⟩ => show win0_2.index t 0 * 128 + 1 * k.val = k.val; rw [e0]; omega
  | ⟨1, _⟩ => show win0_2.index t 1 * 128 + 1 * d.val = d.val; rw [e1]; omega

/-- The base codebook's block is the codebook. -/
theorem emb3 (t : Fin cfg0.N) (k : Fin 2) (d : Fin 128) : ((cfg0.win 3).blk t).view.emb (ix2 k d) = ix2 k d := by
  obtain ⟨_, ⟨e0, e1⟩, _⟩ := still t
  funext a; apply Fin.ext
  match a with
  | ⟨0, _⟩ => show win0_3.index t 0 * 2 + 1 * k.val = k.val; rw [e0]; omega
  | ⟨1, _⟩ => show win0_3.index t 1 * 128 + 1 * d.val = d.val; rw [e1]; omega

/-- The refined codebook's block is the codebook. -/
theorem emb4 (t : Fin cfg0.N) (k : Fin 8) (d : Fin 128) : ((cfg0.win 4).blk t).view.emb (ix2 k d) = ix2 k d := by
  obtain ⟨_, _, e0, e1⟩ := still t
  funext a; apply Fin.ext
  match a with
  | ⟨0, _⟩ => show win0_4.index t 0 * 8 + 1 * k.val = k.val; rw [e0]; omega
  | ⟨1, _⟩ => show win0_4.index t 1 * 128 + 1 * d.val = d.val; rw [e1]; omega

/-! ## What the blocks hold -/

/-- The words staged for the mask are the mask as one row of 32-bit words. -/
theorem words (c : Dev nD) (i : Fin 16384) :
    (V m c main_v1 : IVec S1x16384 32) (ix2 (0 : Fin 1) i) = ((m (c.tc.loc main_arg1) : IVec S16384 1) (ix1 i)).setWidth 32 := by
  have e : (V m c main_v1 : IVec S1x16384 32)
      = extui 32 (shapeCast S1x16384 (m (c.tc.loc main_arg1) : IVec S16384 1) shapeCasts_S16384_S1x16384) natLt_1_32 := by
    unfold V hostOps0
    after_results
    rfl
  rw [e]
  show (shapeCast S1x16384 (m (c.tc.loc main_arg1) : IVec S16384 1) shapeCasts_S16384_S1x16384 (ix2 (0 : Fin 1) i)).setWidth 32 = _
  refine congrArg (BitVec.setWidth 32) ((shapeCast_addUnit_apply ![16384] (m (c.tc.loc main_arg1) : IVec S16384 1) _ _).trans ?_)
  exact congrArg (m (c.tc.loc main_arg1) : IVec S16384 1) (funext fun a => by match a with | ⟨0, _⟩ => rfl)

/-- A row of the block of rows is the row of the argument at its place. -/
theorem block0 (c : Dev nD) (t : Fin cfg0.N) (i : Fin 4096) :
    row (iblk m c 0 t : FVec Ideal S4096x128 .f32) i = row (m (c.tc.loc main_arg0) : FVec Ideal S16384x128 .f32) (place t i) := by
  funext d
  show V m c main_arg0 (((cfg0.win 0).blk t).view.emb (ix2 i d)) = _
  rw [emb0, V_main_arg0]

/-- A word of the block of mask words is the argument's bit at its place. -/
theorem block1 (c : Dev nD) (t : Fin cfg0.N) (i : Fin 4096) :
    (iblk m c 1 t : IVec S1x4096 32) (ix2 (0 : Fin 1) i)
      = ((m (c.tc.loc main_arg1) : IVec S16384 1) (ix1 (place t i))).setWidth 32 := by
  show V m c main_v1 (((cfg0.win 1).blk t).view.emb (ix2 (0 : Fin 1) i)) = _
  rw [emb1]
  exact words m c _

/-- A row of the rotation's block. -/
theorem block2 (c : Dev nD) (t : Fin cfg0.N) :
    row (iblk m c 2 t : FVec Ideal S128x128 .f32) = row (m (c.tc.loc main_arg2) : FVec Ideal S128x128 .f32) := by
  funext k d
  show V m c main_arg2 (((cfg0.win 2).blk t).view.emb (ix2 k d)) = _
  rw [emb2, V_main_arg2]

/-- A row of the base codebook's block. -/
theorem block3 (c : Dev nD) (t : Fin cfg0.N) :
    row (iblk m c 3 t : FVec Ideal S2x128 .f32) = row (m (c.tc.loc main_arg3) : FVec Ideal S2x128 .f32) := by
  funext k d
  show V m c main_arg3 (((cfg0.win 3).blk t).view.emb (ix2 k d)) = _
  rw [emb3, V_main_arg3]

/-- A row of the refined codebook's block. -/
theorem block4 (c : Dev nD) (t : Fin cfg0.N) :
    row (iblk m c 4 t : FVec Ideal S8x128 .f32) = row (m (c.tc.loc main_arg4) : FVec Ideal S8x128 .f32) := by
  funext k d
  show V m c main_arg4 (((cfg0.win 4).blk t).view.emb (ix2 k d)) = _
  rw [emb4, V_main_arg4]

/-! ## The array -/

/-- The value of a device's arguments. -/
abbrev wanted (c : Dev nD) : FVec Ideal S16384x128 .f32 :=
  value (m (c.tc.loc main_arg0)) (m (c.tc.loc main_arg1)) (m (c.tc.loc main_arg2)) (m (c.tc.loc main_arg3)) (m (c.tc.loc main_arg4))

/-- What point `t` writes back is its block of the value. -/
theorem flushed_eq (c : Dev nD) (t : Fin cfg0.N) :
    (dats m 0 c).flushed 5 t = ((cfg0.win 5).blk t).view.read (Elt Ideal) (wanted m c) := by
  rw [Value.flushed5]
  funext j
  obtain ⟨i, d, rfl⟩ : ∃ (i : Fin 4096) (d : Fin 128), j = ix2 i d := ⟨j 0, j 1, eq_ix2 j⟩
  show out0_5 (F := Ideal) (iblk m c 0 t) (iblk m c 1 t) (iblk m c 2 t) (iblk m c 3 t) (iblk m c 4 t) (ix2 i d)
    = wanted m c (((cfg0.win 5).blk t).view.emb (ix2 i d))
  rw [emb5, block_at _ _ _ _ _ i d _ (block1 m c t i), block0, block2, block3, block4]
  rfl

/-- The blocks tile the result array: row `r` is row `r % 4096` of block `r / 4096`. -/
theorem cover (j : S16384x128.Idx) : ∃ t : Fin cfg0.N, (cfg0.win 5).flush t = true ∧ j ∈ ((cfg0.win 5).blk t).view.set := by
  obtain ⟨r, d, rfl⟩ : ∃ (r : Fin 16384) (d : Fin 128), j = ix2 r d := ⟨j 0, j 1, eq_ix2 j⟩
  have hN : cfg0.N = 4 := N_0
  have hr := r.isLt
  let t : Fin cfg0.N := ⟨r.val / 4096, by omega⟩
  let i : Fin 4096 := ⟨r.val % 4096, by omega⟩
  have e : place t i = r := Fin.ext (by show 4096 * (r.val / 4096) + r.val % 4096 = r.val; omega)
  refine ⟨t, flush0_5 _, ?_⟩
  have h := ((cfg0.win 5).blk t).view.emb_mem_set (ix2 i d)
  rw [emb5, e] at h
  exact h

/-- So the result array ends holding the value. -/
theorem final (c : Dev nD) : (dats m 0 c).arrAt 5 cfg0.N = wanted m c :=
  (dats m 0 c).arrAt_eq_of_cover 5 (wanted m c) (fun t _ => flushed_eq m c t) cover

/-- The run: the result array holds the value, the arguments are as launched. -/
theorem run : θ_run defs (onTc (τ := τ) (main (F := Ideal))) ⟨m, fun _ => 0, ρ⟩ fun r => ∀ c : Dev nD,
      r.2.mem ((c : Thread nD τ).loc main_v2) = wanted m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1).trans (final m c), (h c).2⟩) (Value.run_blocks m ρ)

end Cert.Proof.Array

end
-- ==== Proof.Equation.lean ====
/-
  The claims. The reference's result and the kernel's result array are the same function of the arguments, entry by entry: both are the
  row's result. With the two runs this gives the value claim; the frames are the runs read at the arguments.
-/
module

public import proofs.«01_k».proof.Defs
public import proofs.«01_k».proof.Proof.Gen.Kernel.Frame
public import proofs.«01_k».proof.Proof.HostValue
public import proofs.«01_k».proof.Proof.Array
public import Idealize.ShloMosaic.Lib.Quiescent

@[expose] public section

noncomputable section

namespace Cert.Proof.Equation

open Idealize.ShloMosaic Idealize.ShloMosaic.TcCoe Idealize.SL.Sem

/-- What the reference computes is the value that the kernel's array holds. -/
theorem result_eq (x : FVec Ideal Cert.KernelIdeal.S16384x128 .f32) (mask : IVec Cert.KernelIdeal.S16384 1)
    (R : FVec Ideal Cert.KernelIdeal.S128x128 .f32) (C2 : FVec Ideal Cert.KernelIdeal.S2x128 .f32)
    (C8 : FVec Ideal Cert.KernelIdeal.S8x128 .f32) : Cert.Proof.HostRun.result (F := Ideal) x mask R C2 C8 = Cert.Proof.Array.value x mask R C2 C8 := by
  funext j
  obtain ⟨i, d, rfl⟩ : ∃ (i : Fin 16384) (d : Fin 128), j = ix2 i d := ⟨j 0, j 1, eq_ix2 j⟩
  exact Cert.Proof.HostValue.result_at x mask R C2 C8 i d

/-- The kernel finishes, leaves its arguments as they were and every counter at zero. -/
theorem frame_kernel : Cert.quiescent_Kernel (hKernel := Cert.Kernel.Gen.facts) := fun m ρ _ => Cert.Kernel.Gen.frame m ρ

/-- So does its idealization. -/
theorem frame_ideal : Cert.quiescent_KernelIdeal (hKernelIdeal := Cert.KernelIdeal.Gen.facts) :=
  fun m ρ _ => Cert.KernelIdeal.Gen.frame m ρ

/-- So does the reference; it declares no counter. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.Proof.HostRun.run (F := Ideal) m ρ)

/-- Over the extended reals the kernel's result is the reference's, whatever the arguments. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.Proof.Array.wanted m c, Cert.Proof.Array.run m g, ?_⟩
  refine (θ_run Cert.ReferenceIdeal.defs _ _).mono (fun _ h c => ⟨(h c).1.trans ?_, (h c).2⟩)
    (Cert.Proof.HostRun.run (F := Ideal) m' g')
  obtain ⟨h0, h1, h2, h3, h4⟩ := hagree c
  rw [h0, h1, h2, h3, h4]
  exact result_eq _ _ _ _ _

end Cert.Proof.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Everything claimed holds. -/
theorem claim : Cert.Claim :=
  ⟨Cert.Kernel.Gen.facts, Cert.KernelIdeal.Gen.facts, Cert.ReferenceIdeal.Gen.facts, Equation.frame_kernel, Equation.frame_ideal,
    Equation.frame_reference, trivial, Equation.algebraic⟩

end Cert.Proof

end
